-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v12)) (v1 : (c : Dev Cert.KernelIdeal.nD) → Buf (Elt Ideal) ((c.tc : Thread Cert.KernelIdeal.nD Cert.KernelIdeal.τ).loc Cert.KernelIdeal.main_v14)) (v2 : (c : Dev Cert.KernelIdeal.nD) → Buf (Elt Ideal) ((c.tc : Thread Cert.KernelIdeal.nD Cert.KernelIdeal.τ).loc Cert.KernelIdeal.main_v16)) (v3 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_v14) = v1 c
          ∧ r.2.mem ((c.tc : Thread Cert.KernelIdeal.nD Cert.KernelIdeal.τ).loc Cert.KernelIdeal.main_v16) = v2 c
          ∧ r.2.mem ((c.tc : Thread Cert.KernelIdeal.nD Cert.KernelIdeal.τ).loc Cert.KernelIdeal.main_v18) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_v33) = v1 c
          ∧ r.2.mem ((c.tc : Thread Cert.ReferenceIdeal.nD Cert.ReferenceIdeal.τ).loc Cert.ReferenceIdeal.main_v36) = v2 c
          ∧ r.2.mem ((c.tc : Thread Cert.ReferenceIdeal.nD Cert.ReferenceIdeal.τ).loc Cert.ReferenceIdeal.main_v39) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x256x64x64 : Shape := ⟨4, ![4, 256, 64, 64]⟩
abbrev S4x256x32x32 : Shape := ⟨4, ![4, 256, 32, 32]⟩
abbrev S4x256x16x16 : Shape := ⟨4, ![4, 256, 16, 16]⟩
abbrev S4x256x8x8 : Shape := ⟨4, ![4, 256, 8, 8]⟩
abbrev S256x1024 : Shape := ⟨2, ![256, 1024]⟩
abbrev S1024 : Shape := ⟨1, ![1024]⟩
abbrev S1024x256 : Shape := ⟨2, ![1024, 256]⟩
abbrev S256 : Shape := ⟨1, ![256]⟩
abbrev S4x64x64x256 : Shape := ⟨4, ![4, 64, 64, 256]⟩
abbrev S16384x256 : Shape := ⟨2, ![16384, 256]⟩
abbrev S4x32x32x256 : Shape := ⟨4, ![4, 32, 32, 256]⟩
abbrev S4096x256 : Shape := ⟨2, ![4096, 256]⟩
abbrev S4x16x16x256 : Shape := ⟨4, ![4, 16, 16, 256]⟩
abbrev S4x8x8x256 : Shape := ⟨4, ![4, 8, 8, 256]⟩
abbrev S256x256 : Shape := ⟨2, ![256, 256]⟩
abbrev S1x1024 : Shape := ⟨2, ![1, 1024]⟩
abbrev S1x256 : Shape := ⟨2, ![1, 256]⟩
abbrev S2048x256 : Shape := ⟨2, ![2048, 256]⟩
abbrev S2048x1024 : Shape := ⟨2, ![2048, 1024]⟩

abbrev nBuf : Space → Nat
  | .hbm => 30
  | .vmem => 16
  | .smem => 0
  | _ => 0

abbrev bufTy : (tb : Table) → Fin (tcTables nBuf tb) → BufTy
  | .hbm, ⟨0, _⟩ => ⟨S4x256x64x64, .f32⟩
  | .hbm, ⟨1, _⟩ => ⟨S4x256x32x32, .f32⟩
  | .hbm, ⟨2, _⟩ => ⟨S4x256x16x16, .f32⟩
  | .hbm, ⟨3, _⟩ => ⟨S4x256x8x8, .f32⟩
  | .hbm, ⟨4, _⟩ => ⟨S256x1024, .f32⟩
  | .hbm, ⟨5, _⟩ => ⟨S1024, .f32⟩
  | .hbm, ⟨6, _⟩ => ⟨S1024x256, .f32⟩
  | .hbm, ⟨7, _⟩ => ⟨S256, .f32⟩
  | .hbm, ⟨8, _⟩ => ⟨S4x64x64x256, .f32⟩
  | .hbm, ⟨9, _⟩ => ⟨S16384x256, .f32⟩
  | .hbm, ⟨10, _⟩ => ⟨S4x32x32x256, .f32⟩
  | .hbm, ⟨11, _⟩ => ⟨S4096x256, .f32⟩
  | .hbm, ⟨12, _⟩ => ⟨S4x16x16x256, .f32⟩
  | .hbm, ⟨13, _⟩ => ⟨S1024x256, .f32⟩
  | .hbm, ⟨14, _⟩ => ⟨S4x8x8x256, .f32⟩
  | .hbm, ⟨15, _⟩ => ⟨S256x256, .f32⟩
  | .hbm, ⟨16, _⟩ => ⟨S1x1024, .f32⟩
  | .hbm, ⟨17, _⟩ => ⟨S1x256, .f32⟩
  | .hbm, ⟨18, _⟩ => ⟨S16384x256, .f32⟩
  | .hbm, ⟨19, _⟩ => ⟨S4096x256, .f32⟩
  | .hbm, ⟨20, _⟩ => ⟨S1024x256, .f32⟩
  | .hbm, ⟨21, _⟩ => ⟨S256x256, .f32⟩
  | .hbm, ⟨22, _⟩ => ⟨S4x64x64x256, .f32⟩
  | .hbm, ⟨23, _⟩ => ⟨S4x256x64x64, .f32⟩
  | .hbm, ⟨24, _⟩ => ⟨S4x32x32x256, .f32⟩
  | .hbm, ⟨25, _⟩ => ⟨S4x256x32x32, .f32⟩
  | .hbm, ⟨26, _⟩ => ⟨S4x16x16x256, .f32⟩
  | .hbm, ⟨27, _⟩ => ⟨S4x256x16x16, .f32⟩
  | .hbm, ⟨28, _⟩ => ⟨S4x8x8x256, .f32⟩
  | .hbm, ⟨29, _⟩ => ⟨S4x256x8x8, .f32⟩
  | .local _ .vmem, ⟨0, _⟩ => ⟨S2048x256, .f32⟩
  | .local _ .vmem, ⟨1, _⟩ => ⟨S2048x256, .f32⟩
  | .local _ .vmem, ⟨2, _⟩ => ⟨S2048x256, .f32⟩
  | .local _ .vmem, ⟨3, _⟩ => ⟨S2048x256, .f32⟩
  | .local _ .vmem, ⟨4, _⟩ => ⟨S1024x256, .f32⟩
  | .local _ .vmem, ⟨5, _⟩ => ⟨S256x256, .f32⟩
  | .local _ .vmem, ⟨6, _⟩ => ⟨S256x1024, .f32⟩
  | .local _ .vmem, ⟨7, _⟩ => ⟨S1x1024, .f32⟩
  | .local _ .vmem, ⟨8, _⟩ => ⟨S1024x256, .f32⟩
  | .local _ .vmem, ⟨9, _⟩ => ⟨S1x256, .f32⟩
  | .local _ .vmem, ⟨10, _⟩ => ⟨S2048x256, .f32⟩
  | .local _ .vmem, ⟨11, _⟩ => ⟨S2048x256, .f32⟩
  | .local _ .vmem, ⟨12, _⟩ => ⟨S2048x256, .f32⟩
  | .local _ .vmem, ⟨13, _⟩ => ⟨S2048x256, .f32⟩
  | .local _ .vmem, ⟨14, _⟩ => ⟨S1024x256, .f32⟩
  | .local _ .vmem, ⟨15, _⟩ => ⟨S256x256, .f32⟩
  | _, _ => ⟨S4x256x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10_0 : Ref sig .tc := ⟨.hbm, 18, rfl⟩
abbrev main_v10_1 : Ref sig .tc := ⟨.hbm, 19, rfl⟩
abbrev main_v10_2 : Ref sig .tc := ⟨.hbm, 20, rfl⟩
abbrev main_v10_3 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg11_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem11_0 : DmaSem sig := 15

abbrev nD : Nat := 1
abbrev τ : Topo := Topo.v7x

variable {F : FTy → Type} [FloatOps F]

abbrev grid0 : Pipeline.Grid := ⟨1, ![10], ![false]⟩

def k0_cond1 (i : grid0.Coords) : BitVec 1 :=
  let arg0 : BitVec 32 := BitVec.ofNat 32 (i 0).val
  let c8_i32 : BitVec 32 := 8#32
  let v4 : BitVec 1 := Scalar.cmpi .slt arg0 c8_i32
  let v5 : BitVec 32 := Scalar.extui v4
  let c0_i32 : BitVec 32 := 0#32
  let v6 : BitVec 1 := Scalar.cmpi .ne v5 c0_i32
  v6

def k0_cond2 (i : grid0.Coords) : BitVec 1 :=
  let arg0 : BitVec 32 := BitVec.ofNat 32 (i 0).val
  let c8_i32_3 : BitVec 32 := 8#32
  let v7 : BitVec 1 := Scalar.cmpi .sge arg0 c8_i32_3
  let v8 : BitVec 32 := Scalar.extui v7
  let c0_i32_4 : BitVec 32 := 0#32
  let v9 : BitVec 1 := Scalar.cmpi .ne v8 c0_i32_4
  v9

def k0_cond3 (i : grid0.Coords) : BitVec 1 :=
  let arg0 : BitVec 32 := BitVec.ofNat 32 (i 0).val
  let c0_i32_5 : BitVec 32 := 0#32
  let v10 : BitVec 1 := Scalar.cmpi .eq arg0 c0_i32_5
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S2048x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2048x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1024x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== ReferenceIdeal.lean ====
abbrev S4x256x64x64 : Shape := ⟨4, ![4, 256, 64, 64]⟩
abbrev S4x256x32x32 : Shape := ⟨4, ![4, 256, 32, 32]⟩
abbrev S4x256x16x16 : Shape := ⟨4, ![4, 256, 16, 16]⟩
abbrev S4x256x8x8 : Shape := ⟨4, ![4, 256, 8, 8]⟩
abbrev S256x1024 : Shape := ⟨2, ![256, 1024]⟩
abbrev S1024 : Shape := ⟨1, ![1024]⟩
abbrev S1024x256 : Shape := ⟨2, ![1024, 256]⟩
abbrev S256 : Shape := ⟨1, ![256]⟩
abbrev S5120 : Shape := ⟨1, ![5120]⟩
abbrev S4x256x4096 : Shape := ⟨3, ![4, 256, 4096]⟩
abbrev S4x4096x256 : Shape := ⟨3, ![4, 4096, 256]⟩
abbrev S4x256x1024 : Shape := ⟨3, ![4, 256, 1024]⟩
abbrev S4x1024x256 : Shape := ⟨3, ![4, 1024, 256]⟩
abbrev S4x256x256 : Shape := ⟨3, ![4, 256, 256]⟩
abbrev S4x256x64 : Shape := ⟨3, ![4, 256, 64]⟩
abbrev S4x64x256 : Shape := ⟨3, ![4, 64, 256]⟩
abbrev S4x5440x256 : Shape := ⟨3, ![4, 5440, 256]⟩
abbrev S_ : Shape := ⟨0, ![]⟩
abbrev S5120x1 : Shape := ⟨2, ![5120, 1]⟩
abbrev S1 : Shape := ⟨1, ![1]⟩
abbrev S1x1 : Shape := ⟨2, ![1, 1]⟩
abbrev S4x5120x256 : Shape := ⟨3, ![4, 5120, 256]⟩
abbrev S20480x256 : Shape := ⟨2, ![20480, 256]⟩
abbrev S20480x1024 : Shape := ⟨2, ![20480, 1024]⟩
abbrev S1x1024 : Shape := ⟨2, ![1, 1024]⟩
abbrev S1x256 : Shape := ⟨2, ![1, 256]⟩

abbrev nBuf : Space → Nat
  | .hbm => 75
  | .vmem => 0
  | .smem => 0
  | _ => 0

abbrev bufTy : (tb : Table) → Fin (tcTables nBuf tb) → BufTy
  | .hbm, ⟨0, _⟩ => ⟨S4x256x64x64, .f32⟩
  | .hbm, ⟨1, _⟩ => ⟨S4x256x32x32, .f32⟩
  | .hbm, ⟨2, _⟩ => ⟨S4x256x16x16, .f32⟩
  | .hbm, ⟨3, _⟩ => ⟨S4x256x8x8, .f32⟩
  | .hbm, ⟨4, _⟩ => ⟨S256x1024, .f32⟩
  | .hbm, ⟨5, _⟩ => ⟨S1024, .f32⟩
  | .hbm, ⟨6, _⟩ => ⟨S1024x256, .f32⟩
  | .hbm, ⟨7, _⟩ => ⟨S256, .f32⟩
  | .hbm, ⟨8, _⟩ => ⟨S5120, .i32⟩
  | .hbm, ⟨9, _⟩ => ⟨S4x256x4096, .f32⟩
  | .hbm, ⟨10, _⟩ => ⟨S4x4096x256, .f32⟩
  | .hbm, ⟨11, _⟩ => ⟨S4x256x1024, .f32⟩
  | .hbm, ⟨12, _⟩ => ⟨S4x1024x256, .f32⟩
  | .hbm, ⟨13, _⟩ => ⟨S4x256x256, .f32⟩
  | .hbm, ⟨14, _⟩ => ⟨S4x256x256, .f32⟩
  | .hbm, ⟨15, _⟩ => ⟨S4x256x64, .f32⟩
  | .hbm, ⟨16, _⟩ => ⟨S4x64x256, .f32⟩
  | .hbm, ⟨17, _⟩ => ⟨S4x5440x256, .f32⟩
  | .hbm, ⟨18, _⟩ => ⟨S_, .i32⟩
  | .hbm, ⟨19, _⟩ => ⟨S5120, .i32⟩
  | .hbm, ⟨20, _⟩ => ⟨S5120, .i1⟩
  | .hbm, ⟨21, _⟩ => ⟨S_, .i32⟩
  | .hbm, ⟨22, _⟩ => ⟨S5120, .i32⟩
  | .hbm, ⟨23, _⟩ => ⟨S5120, .i32⟩
  | .hbm, ⟨24, _⟩ => ⟨S5120, .i32⟩
  | .hbm, ⟨25, _⟩ => ⟨S5120x1, .i32⟩
  | .hbm, ⟨26, _⟩ => ⟨S1, .i32⟩
  | .hbm, ⟨27, _⟩ => ⟨S_, .i32⟩
  | .hbm, ⟨28, _⟩ => ⟨S5120x1, .i32⟩
  | .hbm, ⟨29, _⟩ => ⟨S5120x1, .i1⟩
  | .hbm, ⟨30, _⟩ => ⟨S1x1, .i32⟩
  | .hbm, ⟨31, _⟩ => ⟨S5120x1, .i32⟩
  | .hbm, ⟨32, _⟩ => ⟨S5120x1, .i1⟩
  | .hbm, ⟨33, _⟩ => ⟨S5120x1, .i1⟩
  | .hbm, ⟨34, _⟩ => ⟨S_, .i1⟩
  | .hbm, ⟨35, _⟩ => ⟨S5120, .i1⟩
  | .hbm, ⟨36, _⟩ => ⟨S4x5120x256, .f32⟩
  | .hbm, ⟨37, _⟩ => ⟨S4x5120x256, .i1⟩
  | .hbm, ⟨38, _⟩ => ⟨S_, .f32⟩
  | .hbm, ⟨39, _⟩ => ⟨S4x5120x256, .f32⟩
  | .hbm, ⟨40, _⟩ => ⟨S4x5120x256, .f32⟩
  | .hbm, ⟨41, _⟩ => ⟨S20480x256, .f32⟩
  | .hbm, ⟨42, _⟩ => ⟨S20480x1024, .f32⟩
  | .hbm, ⟨43, _⟩ => ⟨S1x1024, .f32⟩
  | .hbm, ⟨44, _⟩ => ⟨S20480x1024, .f32⟩
  | .hbm, ⟨45, _⟩ => ⟨S20480x1024, .f32⟩
  | .hbm, ⟨46, _⟩ => ⟨S_, .f32⟩
  | .hbm, ⟨47, _⟩ => ⟨S20480x1024, .f32⟩
  | .hbm, ⟨48, _⟩ => ⟨S20480x1024, .f32⟩
  | .hbm, ⟨49, _⟩ => ⟨S20480x256, .f32⟩
  | .hbm, ⟨50, _⟩ => ⟨S1x256, .f32⟩
  | .hbm, ⟨51, _⟩ => ⟨S20480x256, .f32⟩
  | .hbm, ⟨52, _⟩ => ⟨S20480x256, .f32⟩
  | .hbm, ⟨53, _⟩ => ⟨S4x5120x256, .f32⟩
  | .hbm, ⟨54, _⟩ => ⟨S_, .i32⟩
  | .hbm, ⟨55, _⟩ => ⟨S5120, .i32⟩
  | .hbm, ⟨56, _⟩ => ⟨S5120, .i1⟩
  | .hbm, ⟨57, _⟩ => ⟨S_, .i32⟩
  | .hbm, ⟨58, _⟩ => ⟨S5120, .i32⟩
  | .hbm, ⟨59, _⟩ => ⟨S5120, .i32⟩
  | .hbm, ⟨60, _⟩ => ⟨S5120, .i32⟩
  | .hbm, ⟨61, _⟩ => ⟨S5120x1, .i32⟩
  | .hbm, ⟨62, _⟩ => ⟨S4x5440x256, .f32⟩
  | .hbm, ⟨63, _⟩ => ⟨S4x4096x256, .f32⟩
  | .hbm, ⟨64, _⟩ => ⟨S4x256x4096, .f32⟩
  | .hbm, ⟨65, _⟩ => ⟨S4x256x64x64, .f32⟩
  | .hbm, ⟨66, _⟩ => ⟨S4x1024x256, .f32⟩
  | .hbm, ⟨67, _⟩ => ⟨S4x256x1024, .f32⟩
  | .hbm, ⟨68, _⟩ => ⟨S4x256x32x32, .f32⟩
  | .hbm, ⟨69, _⟩ => ⟨S4x256x256, .f32⟩
  | .hbm, ⟨70, _⟩ => ⟨S4x256x256, .f32⟩
  | .hbm, ⟨71, _⟩ => ⟨S4x256x16x16, .f32⟩
  | .hbm, ⟨72, _⟩ => ⟨S4x64x256, .f32⟩
  | .hbm, ⟨73, _⟩ => ⟨S4x256x64, .f32⟩
  | .hbm, ⟨74, _⟩ => ⟨S4x256x8x8, .f32⟩
  | _, _ => ⟨S4x256x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_call0_c : Ref sig .tc := ⟨.hbm, 18, rfl⟩
abbrev main_call0_v0 : Ref sig .tc := ⟨.hbm, 19, rfl⟩
abbrev main_call0_v1 : Ref sig .tc := ⟨.hbm, 20, rfl⟩
abbrev main_call0_c_0 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_c_1 : Ref sig .tc := ⟨.hbm, 26, rfl⟩
abbrev main_call0_c_2 : Ref sig .tc := ⟨.hbm, 27, rfl⟩
abbrev main_call0_v6 : Ref sig .tc := ⟨.hbm, 28, rfl⟩
abbrev main_call0_v7 : Ref sig .tc := ⟨.hbm, 29, rfl⟩
abbrev main_call0_v8 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_c_3 : Ref sig .tc := ⟨.hbm, 34, rfl⟩
abbrev main_call0_v12 : Ref sig .tc := ⟨.hbm, 35, rfl⟩
abbrev main_call0_v13 : Ref sig .tc := ⟨.hbm, 36, rfl⟩
abbrev main_call0_v14 : Ref sig .tc := ⟨.hbm, 37, rfl⟩
abbrev main_call0_cst : Ref sig .tc := ⟨.hbm, 38, rfl⟩
abbrev main_call0_v15 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_call1_cst : Ref sig .tc := ⟨.hbm, 46, rfl⟩
abbrev main_call1_v0 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_c_0 : Ref sig .tc := ⟨.hbm, 54, rfl⟩
abbrev main_v21 : Ref sig .tc := ⟨.hbm, 55, rfl⟩
abbrev main_v22 : Ref sig .tc := ⟨.hbm, 56, rfl⟩
abbrev main_c_1 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩

abbrev nD : Nat := 1
abbrev τ : Topo := Topo.v7x

variable {F : FTy → Type} [FloatOps F]
-- ==== Proof.Body.lean ====
/- The kernel's body, run once: what its twelve staging buffers hold when it returns.
   The body loads both weight blocks, then stores the perceptron of the first token block (under the first condition), that of
   the second token block (under the second) and the two copies (under the third). Each store covers its whole buffer. -/
module

public import proofs.«01_k».proof.Proof.Gen.KernelIdeal.Frame
public import proofs.«01_k».proof.Proof.Gen.KernelIdeal.Skeleton
public import proofs.«01_k».proof.Proof.Gen.KernelIdeal.Points
public import Idealize.ShloMosaic.Lib.VecWindow

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 4000000 in
/-- The body on any whole staging buffers, at coordinates at which it works on the first token array only (`¬ k0_cond2`) or on the
    second only (`k0_cond2`, and neither other condition): the inputs' buffers come back as they were, and each output's buffer comes
    back at the stored payload where its condition holds and unchanged where it does not. -/
theorem body_run (c : Dev nD) (i : grid0.Coords)
    (arg1 : Memref sig .tc .vmem S2048x256 .f32) (harg1 : arg1.IsWhole)
    (arg2 : Memref sig .tc .vmem S2048x256 .f32) (harg2 : arg2.IsWhole)
    (arg3 : Memref sig .tc .vmem S1024x256 .f32) (harg3 : arg3.IsWhole)
    (arg4 : Memref sig .tc .vmem S256x256 .f32) (harg4 : arg4.IsWhole)
    (arg5 : Memref sig .tc .vmem S256x1024 .f32) (harg5 : arg5.IsWhole)
    (arg6 : Memref sig .tc .vmem S1x1024 .f32) (harg6 : arg6.IsWhole)
    (arg7 : Memref sig .tc .vmem S1024x256 .f32) (harg7 : arg7.IsWhole)
    (arg8 : Memref sig .tc .vmem S1x256 .f32) (harg8 : arg8.IsWhole)
    (arg9 : Memref sig .tc .vmem S2048x256 .f32) (harg9 : arg9.IsWhole)
    (arg10 : Memref sig .tc .vmem S2048x256 .f32) (harg10 : arg10.IsWhole)
    (arg11 : Memref sig .tc .vmem S1024x256 .f32) (harg11 : arg11.IsWhole)
    (arg12 : Memref sig .tc .vmem S256x256 .f32) (harg12 : arg12.IsWhole)
    (hc : (k0_cond1 i = 1#1 ∧ ¬ k0_cond2 i = 1#1) ∨ (¬ k0_cond1 i = 1#1 ∧ k0_cond2 i = 1#1 ∧ ¬ k0_cond3 i = 1#1))
    (x0 : Vec F S2048x256 .f32) (x1 : Vec F S2048x256 .f32) (x2 : Vec F S1024x256 .f32) (x3 : Vec F S256x256 .f32) (x4 : Vec F S256x1024 .f32) (x5 : Vec F S1x1024 .f32) (x6 : Vec F S1024x256 .f32) (x7 : Vec F S1x256 .f32) (x8 : Vec F S2048x256 .f32) (x9 : Vec F S2048x256 .f32) (x10 : Vec F S1024x256 .f32) (x11 : Vec F S256x256 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (if k0_cond1 i = 1#1 then k0_pay3 x4 x6 x0 x5 x7 else x8) ∗ owns (c : Thread nD τ) arg10 fullShare (if k0_cond2 i = 1#1 then k0_pay4 x4 x6 x1 x5 x7 else x9) ∗ owns (c : Thread nD τ) arg11 fullShare (if k0_cond3 i = 1#1 then k0_pay5 x2 else x10) ∗ owns (c : Thread nD τ) arg12 fullShare (if k0_cond3 i = 1#1 then k0_pay6 x3 else x11)) -∗ K ⟨⟩))
      ⊢ wp frame (wpE (defs₀ (F := F)) Variants.none c none) E
          (cc0__kernel i arg1 harg1 arg2 harg2 arg3 harg3 arg4 harg4 arg5 harg5 arg6 harg6 arg7 harg7 arg8 harg8 arg9 harg9 arg10 harg10 arg11 harg11 arg12 harg12) K := by
  simp only [cc0__kernel_eq_skeleton]; unfold cc0__kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11
  have cases3 : (k0_cond1 i = 1#1 ∧ ¬ k0_cond2 i = 1#1 ∧ k0_cond3 i = 1#1) ∨ (k0_cond1 i = 1#1 ∧ ¬ k0_cond2 i = 1#1 ∧ ¬ k0_cond3 i = 1#1)
      ∨ (¬ k0_cond1 i = 1#1 ∧ k0_cond2 i = 1#1 ∧ ¬ k0_cond3 i = 1#1) := by
    by_cases h3 : k0_cond3 i = 1#1
    · exact hc.elim (fun h => .inl ⟨h.1, h.2, h3⟩) fun h => absurd h3 h.2.2
    · exact hc.elim (fun h => .inr (.inl ⟨h.1, h.2, h3⟩)) fun h => .inr (.inr ⟨h.1, h.2.1, h3⟩)
  rcases cases3 with ⟨h1, h2, h3⟩ | ⟨h1, h2, h3⟩ | ⟨h1, h2, h3⟩
  all_goals
    sl_exec (disch := first | sl_exact h1 | sl_exact h2 | sl_exact h3)
    sl_step
    iapply Hk
    -- the inputs' buffers come back as they were
    isplitl [H0]
    · iexists _; isplitr; swap; · iexact H0
      ipureintro; exact harg1.read_unread _
    isplitl [H1]
    · iexists _; isplitr; swap; · iexact H1
      ipureintro; exact harg2.read_unread _
    isplitl [H2]
    · iexists _; isplitr; swap; · iexact H2
      ipureintro; exact harg3.read_unread _
    isplitl [H3]
    · iexists _; isplitr; swap; · iexact H3
      ipureintro; exact harg4.read_unread _
    isplitl [H4]
    · iexists _; isplitr; swap; · iexact H4
      ipureintro; exact harg5.read_unread _
    isplitl [H5]
    · iexists _; isplitr; swap; · iexact H5
      ipureintro; exact harg6.read_unread _
    isplitl [H6]
    · iexists _; isplitr; swap; · iexact H6
      ipureintro; exact harg7.read_unread _
    isplitl [H7]
    · iexists _; isplitr; swap; · iexact H7
      ipureintro; exact harg8.read_unread _
    -- each result's buffer holds the one whole store made into it, or what it held
    isplitl [H8]
    · iexists _; isplitr; swap; · iexact H8
      ipureintro
      first
      | rw [if_neg h1]; exact harg9.read_unread _
      | rw [if_pos h1]; refine (View.read_writes_full _ _ _ _ _).trans ?_; repeat rw [View.readAt_full]
        simp only [hf0, hf1, hf2, hf3, hf4, hf5, hf6, hf7]
    isplitl [H9]
    · iexists _; isplitr; swap; · iexact H9
      ipureintro
      first
      | rw [if_neg h2]; exact harg10.read_unread _
      | rw [if_pos h2]; refine (View.read_writes_full _ _ _ _ _).trans ?_; repeat rw [View.readAt_full]
        simp only [hf0, hf1, hf2, hf3, hf4, hf5, hf6, hf7]
    isplitl [H10]
    · iexists _; isplitr; swap; · iexact H10
      ipureintro
      first
      | rw [if_neg h3]; exact harg11.read_unread _
      | rw [if_pos h3]; refine (View.read_writes_full _ _ _ _ _).trans ?_; repeat rw [View.readAt_full]
        simp only [hf0, hf1, hf2, hf3, hf4, hf5, hf6, hf7]
    iexists _; isplitr; swap; · iexact H11
    ipureintro
    first
    | rw [if_neg h3]; exact harg12.read_unread _
    | rw [if_pos h3]; refine (View.read_writes_full _ _ _ _ _).trans ?_; repeat rw [View.readAt_full]
      simp only [hf0, hf1, hf2, hf3, hf4, hf5, hf6, hf7]

end Cert.KernelIdeal.Hand

end
-- ==== Proof.Data.lean ====
/- What each of the kernel's staging buffers holds point by point, and the run of the whole program.
   Points 0 to 7 store block `t` of the first token array's result, points 8 and 9 block `t - 8` of the second's, and point 0 the two copied
   arrays. A result's buffer that a point does not store into keeps what the last storing point left; since the kernel's index maps stay on the
   last block there, a closed form in the point's own input blocks states that too. -/
module

public import proofs.«01_k».proof.Proof.Body
public import Idealize.ShloMosaic.Lib.Pipeline.ValueKit
public import Idealize.ShloMosaic.Lib.ValueIdx
public import Idealize.ShloMosaic.Lib.Claim

@[expose] public section

set_option maxRecDepth 16384

noncomputable section

namespace Cert.KernelIdeal.Hand

open Cert.KernelIdeal Cert.KernelIdeal.Gen
open Idealize.ShloMosaic hiding ix1 ix2 ix3 eq_ix1 eq_ix2 eq_ix3
open Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The grid's points: conditions, index maps, idle points and write-backs, by inspection of the ten points -/

/-- The first token array's result is stored at points 0 to 7. -/
theorem cond1_iff : ∀ t : Fin cfg0.N, k0_cond1 (grid0.coords t) = 1#1 ↔ t.val < 8 :=
  (by decide +kernel : ∀ t : Fin grid0.N, k0_cond1 (grid0.coords t) = 1#1 ↔ t.val < 8)
/-- The second's at points 8 and 9. -/
theorem cond2_iff : ∀ t : Fin cfg0.N, k0_cond2 (grid0.coords t) = 1#1 ↔ 8 ≤ t.val :=
  (by decide +kernel : ∀ t : Fin grid0.N, k0_cond2 (grid0.coords t) = 1#1 ↔ 8 ≤ t.val)
/-- The two copies are made at point 0. -/
theorem cond3_iff : ∀ t : Fin cfg0.N, k0_cond3 (grid0.coords t) = 1#1 ↔ t.val = 0 :=
  (by decide +kernel : ∀ t : Fin grid0.N, k0_cond3 (grid0.coords t) = 1#1 ↔ t.val = 0)

/-- The blocks of the first token array and of its result: `min t 7`. -/
theorem index_0 : ∀ t : Fin cfg0.N, cc0_transform_0 (grid0.coords t) = ![min t.val 7, 0] :=
  (by decide +kernel : ∀ t : Fin grid0.N, cc0_transform_0 (grid0.coords t) = ![min t.val 7, 0])
theorem index_8 : ∀ t : Fin cfg0.N, cc0_transform_8 (grid0.coords t) = ![min t.val 7, 0] :=
  (by decide +kernel : ∀ t : Fin grid0.N, cc0_transform_8 (grid0.coords t) = ![min t.val 7, 0])
/-- The blocks of the second: `t - 8`, and 0 before point 8. -/
theorem index_1 : ∀ t : Fin cfg0.N, cc0_transform_1 (grid0.coords t) = ![t.val - 8, 0] :=
  (by decide +kernel : ∀ t : Fin grid0.N, cc0_transform_1 (grid0.coords t) = ![t.val - 8, 0])
theorem index_9 : ∀ t : Fin cfg0.N, cc0_transform_9 (grid0.coords t) = ![t.val - 8, 0] :=
  (by decide +kernel : ∀ t : Fin grid0.N, cc0_transform_9 (grid0.coords t) = ![t.val - 8, 0])

/-- When the first result's block is written back: at points 0 to 6 and at 9. -/
theorem flush_8 : ∀ t : Fin cfg0.N, (cfg0.win 8).flush t = decide (t.val < 7 ∨ t.val = 9) :=
  (by decide +kernel : ∀ t : Fin grid0.N, win0_8.flush t = decide (t.val < 7 ∨ t.val = 9))
/-- The second's: at points 8 and 9. -/
theorem flush_9 : ∀ t : Fin cfg0.N, (cfg0.win 9).flush t = decide (8 ≤ t.val) :=
  (by decide +kernel : ∀ t : Fin grid0.N, win0_9.flush t = decide (8 ≤ t.val))
/-- The copies': at point 9. -/
theorem flush_10 : ∀ t : Fin cfg0.N, (cfg0.win 10).flush t = decide (t.val = 9) :=
  (by decide +kernel : ∀ t : Fin grid0.N, win0_10.flush t = decide (t.val = 9))
theorem flush_11 : ∀ t : Fin cfg0.N, (cfg0.win 11).flush t = decide (t.val = 9) :=
  (by decide +kernel : ∀ t : Fin grid0.N, win0_11.flush t = decide (t.val = 9))

/-- At which points each result's buffer is not stored into. -/
theorem idle_8 : ∀ t : Fin cfg0.N, cfg0.idle 8 (cfg0.grid.coords t) = decide (8 ≤ t.val) :=
  (by decide +kernel : ∀ t : Fin grid0.N, idle0 8 (grid0.coords t) = decide (8 ≤ t.val))
theorem idle_9 : ∀ t : Fin cfg0.N, cfg0.idle 9 (cfg0.grid.coords t) = decide (t.val < 8) :=
  (by decide +kernel : ∀ t : Fin grid0.N, idle0 9 (grid0.coords t) = decide (t.val < 8))
theorem idle_10 : ∀ t : Fin cfg0.N, cfg0.idle 10 (cfg0.grid.coords t) = decide (t.val ≠ 0) :=
  (by decide +kernel : ∀ t : Fin grid0.N, idle0 10 (grid0.coords t) = decide (t.val ≠ 0))
theorem idle_11 : ∀ t : Fin cfg0.N, cfg0.idle 11 (cfg0.grid.coords t) = decide (t.val ≠ 0) :=
  (by decide +kernel : ∀ t : Fin grid0.N, idle0 11 (grid0.coords t) = decide (t.val ≠ 0))

/-! ## The input blocks, element by element -/

/-- A block of the first token array: 2048 rows of it, from row `2048 * min t 7`. -/
theorem iblk_0 (c : Dev nD) (t : Fin cfg0.N) (r : Fin 2048) (k : Fin 256) :
    (iblk m c 0 t : S2048x256.Idx → F .f32) (ix2 r k)
      = (V m c main_v1 : S16384x256.Idx → F .f32) (ix2 ⟨min t.val 7 * 2048 + r.val, by omega⟩ k) := by
  show (V m c main_v1 : S16384x256.Idx → F .f32) ((win0_0.rect t).emb (ix2 r k)) = _
  refine congrArg _ (funext fun a => Fin.ext ?_)
  refine (win0_0.rect_emb_val t _ a).trans ?_
  match a with
  | ⟨0, _⟩ => show cc0_transform_0 (grid0.coords t) 0 * 2048 + r.val = _; rw [index_0]; rfl
  | ⟨1, _⟩ => show cc0_transform_0 (grid0.coords t) 1 * 256 + k.val = _; rw [index_0]; exact Nat.zero_add _

/-- A block of the second token array: 2048 rows of it, from row `2048 * (t - 8)`. -/
theorem iblk_1 (c : Dev nD) (t : Fin cfg0.N) (r : Fin 2048) (k : Fin 256) :
    (iblk m c 1 t : S2048x256.Idx → F .f32) (ix2 r k)
      = (V m c main_v3 : S4096x256.Idx → F .f32) (ix2 ⟨(t.val - 8) * 2048 + r.val, by
          have := lt_of_lt_of_eq t.isLt (show cfg0.N = 10 from N_0); omega⟩ k) := by
  show (V m c main_v3 : S4096x256.Idx → F .f32) ((win0_1.rect t).emb (ix2 r k)) = _
  refine congrArg _ (funext fun a => Fin.ext ?_)
  refine (win0_1.rect_emb_val t _ a).trans ?_
  match a with
  | ⟨0, _⟩ => show cc0_transform_1 (grid0.coords t) 0 * 2048 + r.val = _; rw [index_1]; rfl
  | ⟨1, _⟩ => show cc0_transform_1 (grid0.coords t) 1 * 256 + k.val = _; rw [index_1]; exact Nat.zero_add _

/-- Both coordinates of a block index that is zero. -/
theorem whole_index (a : Fin 2) : (![(0#32).toNat, (0#32).toNat] : Fin 2 → ℕ) a = 0 := by fin_cases a <;> rfl

/-- The other inputs' blocks are their whole arrays, at every point. -/
theorem iblk_2 (c : Dev nD) (t : Fin cfg0.N) : iblk m c 2 t = (V m c main_v5 : S1024x256.Idx → F .f32) :=
  funext fun y => congrArg (V m c main_v5 : S1024x256.Idx → F .f32) (funext fun a => Fin.ext (win0_2.rect_emb_val_of_index_zero t a (whole_index a) y))
theorem iblk_3 (c : Dev nD) (t : Fin cfg0.N) : iblk m c 3 t = (V m c main_v7 : S256x256.Idx → F .f32) :=
  funext fun y => congrArg (V m c main_v7 : S256x256.Idx → F .f32) (funext fun a => Fin.ext (win0_3.rect_emb_val_of_index_zero t a (whole_index a) y))
theorem iblk_4 (c : Dev nD) (t : Fin cfg0.N) : iblk m c 4 t = (V m c main_arg4 : S256x1024.Idx → F .f32) :=
  funext fun y => congrArg (V m c main_arg4 : S256x1024.Idx → F .f32) (funext fun a => Fin.ext (win0_4.rect_emb_val_of_index_zero t a (whole_index a) y))
theorem iblk_5 (c : Dev nD) (t : Fin cfg0.N) : iblk m c 5 t = (V m c main_v8 : S1x1024.Idx → F .f32) :=
  funext fun y => congrArg (V m c main_v8 : S1x1024.Idx → F .f32) (funext fun a => Fin.ext (win0_5.rect_emb_val_of_index_zero t a (whole_index a) y))
theorem iblk_6 (c : Dev nD) (t : Fin cfg0.N) : iblk m c 6 t = (V m c main_arg6 : S1024x256.Idx → F .f32) :=
  funext fun y => congrArg (V m c main_arg6 : S1024x256.Idx → F .f32) (funext fun a => Fin.ext (win0_6.rect_emb_val_of_index_zero t a (whole_index a) y))
theorem iblk_7 (c : Dev nD) (t : Fin cfg0.N) : iblk m c 7 t = (V m c main_v9 : S1x256.Idx → F .f32) :=
  funext fun y => congrArg (V m c main_v9 : S1x256.Idx → F .f32) (funext fun a => Fin.ext (win0_7.rect_emb_val_of_index_zero t a (whole_index a) y))

/-- From point 7 on, the first token array's block is its last. -/
theorem iblk_0_stays (c : Dev nD) (t t' : Fin cfg0.N) (h : 7 ≤ t.val) (h' : 7 ≤ t'.val) :
    (iblk m c 0 t : S2048x256.Idx → F .f32) = iblk m c 0 t' := by
  funext y
  rw [eq_ix2 y]
  refine (iblk_0 m c t _ _).trans (Eq.trans ?_ (iblk_0 m c t' _ _).symm)
  simp only [Nat.min_eq_right h, Nat.min_eq_right h']

/-! ## The proof data -/

/-- What the body leaves in the first result's buffer: the stored perceptron of the point's token block. -/
def out8 (c : Dev nD) (t : Fin cfg0.N) : Vec F S2048x256 .f32 :=
  k0_pay3 (iblk m c 4 t) (iblk m c 6 t) (iblk m c 0 t) (iblk m c 5 t) (iblk m c 7 t)
/-- In the second result's. -/
def out9 (c : Dev nD) (t : Fin cfg0.N) : Vec F S2048x256 .f32 :=
  k0_pay4 (iblk m c 4 t) (iblk m c 6 t) (iblk m c 1 t) (iblk m c 5 t) (iblk m c 7 t)

/-- The proof data of the one pipeline on core `c`: the arrays as the region finds them; after each point every input's buffer at its block, the
    two results' at their stored blocks and the two copies at what was copied; nothing owed, full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => out8 m c t
    | ⟨9, _⟩ => out9 m c t
    | ⟨10, _⟩ => k0_pay5 (iblk m c 2 t)
    | ⟨11, _⟩ => k0_pay6 (iblk m c 3 t)
  Φ _ := Pipeline.ΦA spec0 c
  q _ := fullShare
  owed _ := 0

/-- The arrays are those at the region's entry. -/
theorem A_eq (c : Dev nD) (w : Fin cfg0.W) : (dats m 0 c).A w = V m c (Pipeline.arrRef spec0 w) := by
  dsimp only [dats]

/-- What the body leaves, window by window. -/
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = out8 m c t := by dsimp only [dats]
theorem after_9 (c : Dev nD) (t : Fin cfg0.N) : (dats m 0 c).after 9 t = out9 m c t := by dsimp only [dats]
theorem after_10 (c : Dev nD) (t : Fin cfg0.N) : (dats m 0 c).after 10 t = k0_pay5 (iblk m c 2 t) := by dsimp only [dats]
theorem after_11 (c : Dev nD) (t : Fin cfg0.N) : (dats m 0 c).after 11 t = k0_pay6 (iblk m c 3 t) := by dsimp only [dats]

/-! ## Carrying a result's buffer over the points that do not store into it -/

/-- A result's buffer at a point after one that did not write it back holds what that point left: its stored block, or, if it stored none, what it
    found. -/
theorem before_carried (c : Dev nD) (w : Fin cfg0.W) (t t' : Fin cfg0.N) (ht : t'.val + 1 = t.val) (hf : (cfg0.win w).fetch t = false)
    (hfl : (cfg0.win w).flush t' = false) (d) :
    (dats m 0 c).before w t d = (dats m 0 c).left w t' d := by
  rw [(dats m 0 c).before_of_pos w t (by omega) hf]
  have e : (⟨t.val - 1, Nat.lt_of_le_of_lt (Nat.sub_le _ _) t.isLt⟩ : Fin cfg0.N) = t' := Fin.ext (by show t.val - 1 = t'.val; omega)
  rw [e, hfl]; rfl

/-- At a point that stored into it and kept it, what it left is its stored block. -/
theorem left_live (c : Dev nD) (w : Fin cfg0.W) (t : Fin cfg0.N) (hi : cfg0.idle w (cfg0.grid.coords t) = false) (d)
    (hk : (dats m 0 c).kept w t d = (dats m 0 c).after w t) : (dats m 0 c).left w t d = (dats m 0 c).after w t := by
  unfold Dat.left; rw [hi]; exact hk

/-- At a point that did not, what it found. -/
theorem left_idle (c : Dev nD) (w : Fin cfg0.W) (t : Fin cfg0.N) (hi : cfg0.idle w (cfg0.grid.coords t) = true) (d) :
    (dats m 0 c).left w t d = (dats m 0 c).before w t d := by
  unfold Dat.left; rw [hi]

/-- A run of points that do not store into a result's buffer, from one that does: at each of them the buffer holds that point's block. -/
theorem before_run (c : Dev nD) (w : Fin cfg0.W) (p : Fin cfg0.N) (n : ℕ) (hp : n ≤ cfg0.N)
    (hfetch : ∀ t, (cfg0.win w).fetch t = false) (hlive : cfg0.idle w (cfg0.grid.coords p) = false)
    (hkept : ∀ d, (dats m 0 c).kept w p d = (dats m 0 c).after w p)
    (hidle : ∀ t : Fin cfg0.N, p.val < t.val → t.val < n → cfg0.idle w (cfg0.grid.coords t) = true)
    (hflush : ∀ t : Fin cfg0.N, p.val ≤ t.val → t.val + 1 < n → (cfg0.win w).flush t = false) (d) :
    ∀ (j : ℕ) (h : j < n), p.val < j → (dats m 0 c).before w ⟨j, Nat.lt_of_lt_of_le h hp⟩ d = (dats m 0 c).after w p := by
  intro j
  induction j with
  | zero => intro _ h0; exact absurd h0 (Nat.not_lt_zero _)
  | succ j ih =>
    intro h hj
    have hjN : j < cfg0.N := by omega
    rw [before_carried m c w ⟨j + 1, _⟩ ⟨j, hjN⟩ rfl (hfetch _) (hflush _ (by show p.val ≤ j; omega) (by show j + 1 < n; omega))]
    by_cases e : p.val = j
    · obtain rfl : p = ⟨j, hjN⟩ := Fin.ext e
      exact left_live m c w _ hlive d (hkept d)
    · rw [left_idle m c w ⟨j, hjN⟩ (hidle _ (by show p.val < j; omega) (by show j < n; omega))]
      exact ih (by omega) (by omega)

/-- At points 8 and 9 the first result's buffer holds the block stored at point 7. -/
theorem before_8 (c : Dev nD) (t : Fin cfg0.N) (h : 8 ≤ t.val) (d) : (dats m 0 c).before 8 t d = (dats m 0 c).after 8 t := by
  have hN : t.val < 10 := lt_of_lt_of_eq t.isLt (show cfg0.N = 10 from N_0)
  have key := before_run m c 8 t0_7 10 (le_of_eq N_0.symm) (fun _ => rfl) (by rw [idle_8]; rfl) (fun _ => rfl)
    (fun t h1 h2 => by rw [idle_8]; exact decide_eq_true h1)
    (fun t h1 h2 => by rw [flush_8]; have h1' : 7 ≤ t.val := h1; exact decide_eq_false (by omega)) d t.val hN h
  refine key.trans ?_
  rw [after_8, after_8]; unfold out8
  rw [iblk_0_stays m c t0_7 t (le_refl 7) (by omega), iblk_4, iblk_4, iblk_5, iblk_5, iblk_6, iblk_6, iblk_7, iblk_7]

/-- After point 0 the copies' buffers hold what was copied. -/
theorem before_10 (c : Dev nD) (t : Fin cfg0.N) (h : t.val ≠ 0) (d) : (dats m 0 c).before 10 t d = (dats m 0 c).after 10 t := by
  have hN : t.val < 10 := lt_of_lt_of_eq t.isLt (show cfg0.N = 10 from N_0)
  have key := before_run m c 10 t0_0 10 (le_of_eq N_0.symm) (fun _ => rfl) (by rw [idle_10]; rfl) (fun _ => rfl)
    (fun t h1 h2 => by rw [idle_10]; have h1' : 0 < t.val := h1; exact decide_eq_true (by omega))
    (fun t h1 h2 => by rw [flush_10]; exact decide_eq_false (by omega)) d t.val hN (Nat.pos_of_ne_zero h)
  exact key.trans (by rw [after_10, after_10, iblk_2, iblk_2])
theorem before_11 (c : Dev nD) (t : Fin cfg0.N) (h : t.val ≠ 0) (d) : (dats m 0 c).before 11 t d = (dats m 0 c).after 11 t := by
  have hN : t.val < 10 := lt_of_lt_of_eq t.isLt (show cfg0.N = 10 from N_0)
  have key := before_run m c 11 t0_0 10 (le_of_eq N_0.symm) (fun _ => rfl) (by rw [idle_11]; rfl) (fun _ => rfl)
    (fun t h1 h2 => by rw [idle_11]; have h1' : 0 < t.val := h1; exact decide_eq_true (by omega))
    (fun t h1 h2 => by rw [flush_11]; exact decide_eq_false (by omega)) d t.val hN (Nat.pos_of_ne_zero h)
  exact key.trans (by rw [after_11, after_11, iblk_3, iblk_3])

/-! ## The body obligation -/

/-- An input's buffer left at its block is what the obligation asks of it. -/
theorem leaves_live (c : Dev nD) (w : Fin cfg0.W) (t : Fin cfg0.N) (hi : cfg0.idle w (cfg0.grid.coords t) = false) :
    (dats m 0 c).leavesExact w t = owns (c : Thread nD τ) ((cfg0.win w).stage (cfg0.slots t w)) fullShare ((dats m 0 c).after w t) := by
  unfold Dat.leavesExact; rw [hi]

/-- A result's buffer holding `X` is what the obligation asks of it when `X` is the stored block at a point that stores, and what was found at a point
    that does not — the stored block too if that point writes it back. -/
theorem leaves_result (c : Dev nD) (w : Fin cfg0.W) (t : Fin cfg0.N) (d) (X : (cfg0.win w).block.Idx → Elt F (cfg0.win w).elt)
    (hlive : cfg0.idle w (cfg0.grid.coords t) = false → X = (dats m 0 c).after w t)
    (hidle : cfg0.idle w (cfg0.grid.coords t) = true → X = (dats m 0 c).before w t d)
    (hflush : cfg0.idle w (cfg0.grid.coords t) = true → (cfg0.win w).flush t = true → (dats m 0 c).before w t d = (dats m 0 c).after w t) :
    owns (c : Thread nD τ) ((cfg0.win w).stage (cfg0.slots t w)) fullShare X ⊢ (dats m 0 c).leavesExact w t := by
  cases hi : cfg0.idle w (cfg0.grid.coords t) with
  | false => rw [leaves_live m c w t hi, hlive hi]
  | true =>
    cases hf : (cfg0.win w).flush t with
    | false =>
      rw [(dats m 0 c).leavesExact_idle w t hi hf, hidle hi]
      iintro H; iexists d; iexact H
    | true =>
      rw [show (dats m 0 c).leavesExact w t = owns (c : Thread nD τ) ((cfg0.win w).stage (cfg0.slots t w)) fullShare ((dats m 0 c).after w t) from by
        unfold Dat.leavesExact; rw [hi, hf], hidle hi, hflush hi hf]

/-- At every point the body works on exactly one of the two token arrays, and copies only while on the first. -/
theorem conds (t : Fin cfg0.N) : (k0_cond1 (grid0.coords t) = 1#1 ∧ ¬ k0_cond2 (grid0.coords t) = 1#1)
    ∨ (¬ k0_cond1 (grid0.coords t) = 1#1 ∧ k0_cond2 (grid0.coords t) = 1#1 ∧ ¬ k0_cond3 (grid0.coords t) = 1#1) := by
  rw [cond1_iff, cond2_iff, cond3_iff]; omega

/-- The first result's buffer after the body. -/
theorem leaves_8 (c : Dev nD) (t : Fin cfg0.N) (d) :
    owns (c : Thread nD τ) ((cfg0.win 8).stage (cfg0.slots t 8)) fullShare
        (if k0_cond1 (grid0.coords t) = 1#1 then out8 m c t else (dats m 0 c).before 8 t d) ⊢ (dats m 0 c).leavesExact 8 t := by
  refine leaves_result m c 8 t d _ (fun h => ?_) (fun h => ?_) (fun h _ => ?_) <;> rw [idle_8] at h
  · rw [if_pos ((cond1_iff t).mpr (by have := of_decide_eq_false h; omega)), after_8]
  · rw [if_neg (fun h' => by have := (cond1_iff t).mp h'; have := of_decide_eq_true h; omega)]
  · exact before_8 m c t (of_decide_eq_true h) d

/-- The second's. -/
theorem leaves_9 (c : Dev nD) (t : Fin cfg0.N) (d) :
    owns (c : Thread nD τ) ((cfg0.win 9).stage (cfg0.slots t 9)) fullShare
        (if k0_cond2 (grid0.coords t) = 1#1 then out9 m c t else (dats m 0 c).before 9 t d) ⊢ (dats m 0 c).leavesExact 9 t := by
  refine leaves_result m c 9 t d _ (fun h => ?_) (fun h => ?_) (fun h hf => ?_) <;> rw [idle_9] at h
  · rw [if_pos ((cond2_iff t).mpr (by have := of_decide_eq_false h; omega)), after_9]
  · rw [if_neg (fun h' => by have := (cond2_iff t).mp h'; have := of_decide_eq_true h; omega)]
  · rw [flush_9] at hf
    exact absurd (of_decide_eq_true hf) (by have := of_decide_eq_true h; omega)

/-- The copies'. -/
theorem leaves_10 (c : Dev nD) (t : Fin cfg0.N) (d) :
    owns (c : Thread nD τ) ((cfg0.win 10).stage (cfg0.slots t 10)) fullShare
        (if k0_cond3 (grid0.coords t) = 1#1 then k0_pay5 (iblk m c 2 t) else (dats m 0 c).before 10 t d) ⊢ (dats m 0 c).leavesExact 10 t := by
  refine leaves_result m c 10 t d _ (fun h => ?_) (fun h => ?_) (fun h _ => ?_) <;> rw [idle_10] at h
  · rw [if_pos ((cond3_iff t).mpr (by have := of_decide_eq_false h; omega)), after_10]
  · rw [if_neg (fun h' => (of_decide_eq_true h) ((cond3_iff t).mp h'))]
  · exact before_10 m c t (of_decide_eq_true h) d
theorem leaves_11 (c : Dev nD) (t : Fin cfg0.N) (d) :
    owns (c : Thread nD τ) ((cfg0.win 11).stage (cfg0.slots t 11)) fullShare
        (if k0_cond3 (grid0.coords t) = 1#1 then k0_pay6 (iblk m c 3 t) else (dats m 0 c).before 11 t d) ⊢ (dats m 0 c).leavesExact 11 t := by
  refine leaves_result m c 11 t d _ (fun h => ?_) (fun h => ?_) (fun h _ => ?_) <;> rw [idle_11] at h
  · rw [if_pos ((cond3_iff t).mpr (by have := of_decide_eq_false h; omega)), after_11]
  · rw [if_neg (fun h' => (of_decide_eq_true h) ((cond3_iff t).mp h'))]
  · exact before_11 m c t (of_decide_eq_true h) d

/-- What the body is called with at point `t`, its buffers one by one. -/
def bodyPre (c : Dev nD) (t : Fin cfg0.N) : sProp 𝕄 :=
  iprop((dats m 0 c).Φ t.castSucc ∗ (dats m 0 c).owesAt () t.castSucc
    ∗ (∃ d, owns (c : Thread nD τ) ((cfg0.win 0).stage (cfg0.slots t 0)) fullShare ((dats m 0 c).before 0 t d))
    ∗ (∃ d, owns (c : Thread nD τ) ((cfg0.win 1).stage (cfg0.slots t 1)) fullShare ((dats m 0 c).before 1 t d))
    ∗ (∃ d, owns (c : Thread nD τ) ((cfg0.win 2).stage (cfg0.slots t 2)) fullShare ((dats m 0 c).before 2 t d))
    ∗ (∃ d, owns (c : Thread nD τ) ((cfg0.win 3).stage (cfg0.slots t 3)) fullShare ((dats m 0 c).before 3 t d))
    ∗ (∃ d, owns (c : Thread nD τ) ((cfg0.win 4).stage (cfg0.slots t 4)) fullShare ((dats m 0 c).before 4 t d))
    ∗ (∃ d, owns (c : Thread nD τ) ((cfg0.win 5).stage (cfg0.slots t 5)) fullShare ((dats m 0 c).before 5 t d))
    ∗ (∃ d, owns (c : Thread nD τ) ((cfg0.win 6).stage (cfg0.slots t 6)) fullShare ((dats m 0 c).before 6 t d))
    ∗ (∃ d, owns (c : Thread nD τ) ((cfg0.win 7).stage (cfg0.slots t 7)) fullShare ((dats m 0 c).before 7 t d))
    ∗ (∃ d, owns (c : Thread nD τ) ((cfg0.win 8).stage (cfg0.slots t 8)) fullShare ((dats m 0 c).before 8 t d))
    ∗ (∃ d, owns (c : Thread nD τ) ((cfg0.win 9).stage (cfg0.slots t 9)) fullShare ((dats m 0 c).before 9 t d))
    ∗ (∃ d, owns (c : Thread nD τ) ((cfg0.win 10).stage (cfg0.slots t 10)) fullShare ((dats m 0 c).before 10 t d))
    ∗ (∃ d, owns (c : Thread nD τ) ((cfg0.win 11).stage (cfg0.slots t 11)) fullShare ((dats m 0 c).before 11 t d)))
/-- And what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t)

set_option maxHeartbeats 4000000 in
/-- The body at any point: every input's buffer holds its block, so the body's run applies; the four results' buffers are what the obligation asks. -/
theorem body_sound (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0_of m (dats m 0 c) (A_eq m c 0) (after_0 m c), before0_1_of m (dats m 0 c) (A_eq m c 1) (after_1 m c), before0_2_of m (dats m 0 c) (A_eq m c 2) (after_2 m c), before0_3_of m (dats m 0 c) (A_eq m c 3) (after_3 m c), before0_4_of m (dats m 0 c) (A_eq m c 4) (after_4 m c), before0_5_of m (dats m 0 c) (A_eq m c 5) (after_5 m c), before0_6_of m (dats m 0 c) (A_eq m c 6) (after_6 m c), before0_7_of m (dats m 0 c) (A_eq m c 7) (after_7 m c)]
  rw [show (dats m 0 c).Φ t.succ = (dats m 0 c).Φ t.castSucc from rfl,
    show (dats m 0 c).owesAt () t.succ = (dats m 0 c).owesAt () t.castSucc from rfl,
    leaves_live m c 0 t rfl, after_0,
    leaves_live m c 1 t rfl, after_1,
    leaves_live m c 2 t rfl, after_2,
    leaves_live m c 3 t rfl, after_3,
    leaves_live m c 4 t rfl, after_4,
    leaves_live m c 5 t rfl, after_5,
    leaves_live m c 6 t rfl, after_6,
    leaves_live m c 7 t rfl, after_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (body_run c (grid0.coords t) _ _ _ _ _ _ _ _ _ _ _ _ _ _ _ _ _ _ _ _ _ _ _ _ (conds t)
    (iblk m c 0 t) (iblk m c 1 t) (iblk m c 2 t) (iblk m c 3 t) (iblk m c 4 t) (iblk m c 5 t) (iblk m c 6 t) (iblk m c 7 t)
    ((dats m 0 c).before 8 t d8) ((dats m 0 c).before 9 t d9) ((dats m 0 c).before 10 t d10) ((dats m 0 c).before 11 t d11) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iapply (leaves_8 m c t d8); iexact H8
  isplitl [H9]; · iapply (leaves_9 m c t d9); iexact H9
  isplitl [H10]; · iapply (leaves_10 m c t d10); iexact H10
  iapply (leaves_11 m c t d11); iexact H11

/-- The body table's row at point `t` is the body on that point's buffers. -/
theorem body_row (t : Fin cfg0.N) : defs₀ (F := F) .tc cfg0.body (cfg0.bodyArgs t (cfg0.slots t)) = bodyAt0 t := by
  unfold defs₀; rw [Defs.onTc_tc]

/-- The body obligation, at every point. -/
theorem body_obligation (c : Dev nD) : BodyObligation (dats (F := F) m 0 c) (defs₀ (F := F)) Variants.none () Set.univ := fun t => by
  rw [bigSep_W0, bigSep_W0, body_row]
  exact triple_restated (body_sound m c t) rfl .rfl fun _ => .rfl

/-! ## The run -/

/-- What every final state satisfies: each window's array as the proof data has it, every other buffer as the lines after the region leave it. -/
abbrev Final (r : PUnit × MemSt nD τ sig (Elt F)) : Prop :=
  Pipeline.FramePost cfgs (dats m) 0 (Pipeline.afterTail₀ cfgs (dats m) 0 (V0 m) [hostOps1]) r

set_option backward.isDefEq.respectTransparency.types false in
set_option maxHeartbeats 1600000 in
/-- Every weakly fair execution ends, in such a state, with every semaphore counter at zero. -/
theorem run_main : θ_run defs (onTc (τ := τ) (main (F := F))) (s₀ m ρ) (fun r => Final m r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The arguments end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) ((θ_run defs _ _).mono (fun _ h => h.1) (run_main m ρ))

/-- The frame: the arguments end unchanged, and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_main m ρ))

end Cert.KernelIdeal.Hand

end
-- ==== Proof.KernelFrame.lean ====
/- The kernel's frame, at words. The kernel and its idealization are one program, since no operation was rewritten, and the idealization's frame is proved
   for every reading of the floats; so it is the kernel's frame too. -/
module

public import proofs.«01_k».proof.Defs
public import proofs.«01_k».proof.Proof.Gen.Kernel
public import proofs.«01_k».proof.Proof.Data

@[expose] public section

set_option maxRecDepth 16384

noncomputable section

namespace Cert.Proof

open Idealize.ShloMosaic Idealize.SL.Sem

variable {F : FTy → Type} [FloatOps F]

local instance : Cert.Kernel.Facts := Cert.Kernel.Gen.facts
local instance : Cert.KernelIdeal.Facts := Cert.KernelIdeal.Gen.facts

/-- The two kernels' tables of bodies agree: each has one label, and the bodies there are the same text. -/
theorem bodies_eq : Cert.Kernel.defs₀ (F := F) = Cert.KernelIdeal.defs₀ (F := F) := by
  refine congrArg Defs.onTc (funext fun l => funext fun a => ?_)
  match l, a with
  | ⟨0, _⟩, (t, s) => rfl

/-- So do the programs' tables, the pipelines around those bodies included. -/
theorem tables_eq : Cert.Kernel.defs (F := F) = Cert.KernelIdeal.defs (F := F) :=
  congrArg (Pipeline.defs (Cert.KernelIdeal.pcfgs (F := F))) bodies_eq

/-- The kernel runs, leaves its arguments as they were, and ends with every semaphore counter at zero. -/
theorem frame_kernel : Cert.quiescent_Kernel := fun m ρ _ => by
  have h := Cert.KernelIdeal.Hand.frame m ρ
  rw [← tables_eq] at h
  exact h

end Cert.Proof

end
-- ==== Proof.Spec.lean ====
/- The mathematics both programs compute, naming no program, and the readings of layout and arithmetic operations that their proofs share.
   A token is the vector of the 256 channels of a feature map at one batch and one position. Results 0 and 1 put every token of the first two
   maps through a two-layer perceptron; results 2 and 3 are the other two maps unchanged. -/
module

public import Idealize.ShloMosaic.Lib.ValueIdx
public import Idealize.ShloMosaic.Lib.MatmulPlain
public import Idealize.ShloMosaic.Lib.StackMember
public import Idealize.ShloMosaic.Lib.Pipeline.Value

@[expose] public section

set_option maxRecDepth 16384

noncomputable section

namespace Cert.Spec

open Idealize.ShloMosaic
open Idealize.ShloMosaic.ValueIdx Idealize.ShloMosaic.StackMember
open scoped BigOperators

/-! ## The perceptron -/

/-- Channel `n` of the perceptron of one token: `Σ_h max(Σ_k row k · W1 k h + b1 h, 0) · W2 h n + b2 n`. -/
def mlp (row : Fin 256 → EReal) (W1 : Fin 256 → Fin 1024 → EReal) (b1 : Fin 1024 → EReal) (W2 : Fin 1024 → Fin 256 → EReal)
    (b2 : Fin 256 → EReal) (n : Fin 256) : EReal :=
  (∑ h : Fin 1024, max ((∑ k : Fin 256, row k * W1 k h) + b1 h) 0 * W2 h n) + b2 n

/-- A feature map with every token replaced by its perceptron. -/
def mapMlp {H W : ℕ} (x : (⟨4, ![4, 256, H, W]⟩ : Shape).Idx → EReal) (W1 : (⟨2, ![256, 1024]⟩ : Shape).Idx → EReal)
    (b1 : (⟨1, ![1024]⟩ : Shape).Idx → EReal) (W2 : (⟨2, ![1024, 256]⟩ : Shape).Idx → EReal) (b2 : (⟨1, ![256]⟩ : Shape).Idx → EReal) :
    (⟨4, ![4, 256, H, W]⟩ : Shape).Idx → EReal :=
  fun i => mlp (fun k => x (ix4 (i 0) k (i 2) (i 3))) (fun k h => W1 (ix2 k h)) (fun h => b1 (ix1 h)) (fun h n => W2 (ix2 h n))
    (fun n => b2 (ix1 n)) (i 1)

/-- The two products, two sums and the maximum over a matrix of tokens are, row by row, the perceptron. -/
theorem mlp_rows {M : ℕ} (X : FVec Ideal ⟨2, ![M, 256]⟩ .f32) (W1 : FVec Ideal ⟨2, ![256, 1024]⟩ .f32) (B1 : FVec Ideal ⟨2, ![M, 1024]⟩ .f32)
    (Z : FVec Ideal ⟨2, ![M, 1024]⟩ .f32) (W2 : FVec Ideal ⟨2, ![1024, 256]⟩ .f32) (B2 : FVec Ideal ⟨2, ![M, 256]⟩ .f32) (r : Fin M) (n : Fin 256)
    (b1 : Fin 1024 → EReal) (hb1 : ∀ h, B1 (ix2 r h) = b1 h) (b2 : Fin 256 → EReal) (hb2 : ∀ n, B2 (ix2 r n) = b2 n) (hZ : ∀ i, Z i = (0 : EReal)) :
    addf (Host.dotGeneral (DotDims.plain M 1024 256) none
        (maximumf (addf (Host.dotGeneral (DotDims.plain M 256 1024) none X W1) B1) Z) W2) B2 (ix2 r n)
      = mlp (fun k => X (ix2 r k)) (fun k h => W1 (ix2 k h)) b1 (fun h n => W2 (ix2 h n)) b2 n := by
  unfold mlp
  rw [addf_apply, dotGeneral_plain_apply, hb2]
  refine congrArg (· + b2 n) (Finset.sum_congr rfl fun h _ => ?_)
  rw [maximumf_apply, addf_apply, dotGeneral_plain_apply, hb1, hZ]

/-! ## Laying a feature map out as tokens and back -/

section Layout
variable {α : Type} {H W : ℕ}

/-- Channels moved last and the positions of all batches numbered in order: row `(b·H + y)·W + x` is the token at `(b, y, x)`. -/
theorem rows_of_map {N : ℕ} (x : (⟨4, ![4, 256, H, W]⟩ : Shape).Idx → α)
    (ht : (⟨4, ![4, 256, H, W]⟩ : Shape).Transposes [0, 2, 3, 1] ⟨4, ![4, H, W, 256]⟩)
    (hc : (⟨4, ![4, H, W, 256]⟩ : Shape).ShapeCasts ⟨2, ![N, 256]⟩) (b : Fin 4) (y : Fin H) (z : Fin W) (k : Fin 256) (r : Fin N)
    (hr : r.val = (b.val * H + y.val) * W + z.val) :
    shapeCast ⟨2, ![N, 256]⟩ (transpose ⟨4, ![4, H, W, 256]⟩ [0, 2, 3, 1] x ht) hc (ix2 r k) = x (ix4 b k y z) := by
  refine (shapeCast_apply _ hc _ (ix4 b y z k) ?_).trans (transpose_apply _ _ ht _ _ fun a => ?_)
  · rw [Shape.rowMajor_val_four, Shape.rowMajor_val_two]
    show _ = r.val * 256 + k.val
    rw [hr]
    rfl
  · match a with
    | ⟨0, _⟩ => rfl
    | ⟨1, _⟩ => rfl
    | ⟨2, _⟩ => rfl
    | ⟨3, _⟩ => rfl

/-- And back: the map's element at `(b, k, y, x)` is row `(b·H + y)·W + x` at channel `k`. -/
theorem map_of_rows {N : ℕ} (s : (⟨2, ![N, 256]⟩ : Shape).Idx → α)
    (hc : (⟨2, ![N, 256]⟩ : Shape).ShapeCasts ⟨4, ![4, H, W, 256]⟩)
    (ht : (⟨4, ![4, H, W, 256]⟩ : Shape).Transposes [0, 3, 1, 2] ⟨4, ![4, 256, H, W]⟩) (b : Fin 4) (y : Fin H) (z : Fin W) (k : Fin 256) (r : Fin N)
    (hr : r.val = (b.val * H + y.val) * W + z.val) :
    transpose ⟨4, ![4, 256, H, W]⟩ [0, 3, 1, 2] (shapeCast ⟨4, ![4, H, W, 256]⟩ s hc) ht (ix4 b k y z) = s (ix2 r k) := by
  refine (transpose_apply _ _ ht _ (ix4 b y z k) fun a => ?_).trans (shapeCast_apply _ hc _ _ ?_)
  · match a with
    | ⟨0, _⟩ => rfl
    | ⟨1, _⟩ => rfl
    | ⟨2, _⟩ => rfl
    | ⟨3, _⟩ => rfl
  · rw [Shape.rowMajor_val_four, Shape.rowMajor_val_two]
    show r.val * 256 + k.val = _
    rw [hr]
    rfl

/-- The row number of a position is below the number of rows. -/
theorem row_lt {N : ℕ} (hN : N = 4 * H * W) (b : Fin 4) (y : Fin H) (z : Fin W) : (b.val * H + y.val) * W + z.val < N := by
  have h1 : b.val * H + y.val + 1 ≤ 4 * H :=
    (Nat.succ_le_succ (Nat.le_refl _)).trans ((show b.val * H + y.val + 1 ≤ (b.val + 1) * H by rw [Nat.succ_mul]; have := y.isLt; omega).trans
      (Nat.mul_le_mul_right H b.isLt))
  have h2 : (b.val * H + y.val + 1) * W ≤ 4 * H * W := Nat.mul_le_mul_right W h1
  rw [Nat.succ_mul] at h2
  have := z.isLt
  omega

/-- A map laid out as tokens and laid out as a map again is itself. -/
theorem map_rows {N : ℕ} (hN : N = 4 * H * W) (x : (⟨4, ![4, 256, H, W]⟩ : Shape).Idx → α)
    (ht : (⟨4, ![4, 256, H, W]⟩ : Shape).Transposes [0, 2, 3, 1] ⟨4, ![4, H, W, 256]⟩)
    (hc : (⟨4, ![4, H, W, 256]⟩ : Shape).ShapeCasts ⟨2, ![N, 256]⟩)
    (hc' : (⟨2, ![N, 256]⟩ : Shape).ShapeCasts ⟨4, ![4, H, W, 256]⟩)
    (ht' : (⟨4, ![4, H, W, 256]⟩ : Shape).Transposes [0, 3, 1, 2] ⟨4, ![4, 256, H, W]⟩) :
    transpose ⟨4, ![4, 256, H, W]⟩ [0, 3, 1, 2] (shapeCast ⟨4, ![4, H, W, 256]⟩
        (shapeCast ⟨2, ![N, 256]⟩ (transpose ⟨4, ![4, H, W, 256]⟩ [0, 2, 3, 1] x ht) hc) hc') ht' = x := by
  funext i
  obtain ⟨b, k, y, z, rfl⟩ : ∃ (b : Fin 4) (k : Fin 256) (y : Fin H) (z : Fin W), i = ix4 b k y z := ⟨_, _, _, _, eq_ix4 i⟩
  have hr := row_lt hN b y z
  exact (map_of_rows _ hc' ht' b y z k ⟨_, hr⟩ rfl).trans (rows_of_map x ht hc b y z k ⟨_, hr⟩ rfl)

/-- The positions of each batch numbered in order and the channels moved last: token `y·W + x` of batch `b`. -/
theorem seq_of_map {L : ℕ} (x : (⟨4, ![4, 256, H, W]⟩ : Shape).Idx → α) (hc : (⟨4, ![4, 256, H, W]⟩ : Shape).ShapeCasts ⟨3, ![4, 256, L]⟩)
    (ht : (⟨3, ![4, 256, L]⟩ : Shape).Transposes [0, 2, 1] ⟨3, ![4, L, 256]⟩) (b : Fin 4) (y : Fin H) (z : Fin W) (k : Fin 256) (l : Fin L)
    (hl : l.val = y.val * W + z.val) (hL : L = H * W) :
    transpose ⟨3, ![4, L, 256]⟩ [0, 2, 1] (shapeCast ⟨3, ![4, 256, L]⟩ x hc) ht (ix3 b l k) = x (ix4 b k y z) := by
  refine (transpose_apply _ _ ht _ (ix3 b k l) fun a => ?_).trans (shapeCast_apply _ hc _ _ ?_)
  · match a with
    | ⟨0, _⟩ => rfl
    | ⟨1, _⟩ => rfl
    | ⟨2, _⟩ => rfl
  · rw [Shape.rowMajor_val_four, Shape.rowMajor_val_three]
    show ((b.val * 256 + k.val) * H + y.val) * W + z.val = (b.val * 256 + k.val) * L + l.val
    rw [hl, hL]
    ring

/-- And back: the map's element at `(b, k, y, x)` is token `y·W + x` of batch `b` at channel `k`. -/
theorem map_of_seq {L : ℕ} (s : (⟨3, ![4, L, 256]⟩ : Shape).Idx → α) (ht : (⟨3, ![4, L, 256]⟩ : Shape).Transposes [0, 2, 1] ⟨3, ![4, 256, L]⟩)
    (hc : (⟨3, ![4, 256, L]⟩ : Shape).ShapeCasts ⟨4, ![4, 256, H, W]⟩) (b : Fin 4) (y : Fin H) (z : Fin W) (k : Fin 256) (l : Fin L)
    (hl : l.val = y.val * W + z.val) (hL : L = H * W) :
    shapeCast ⟨4, ![4, 256, H, W]⟩ (transpose ⟨3, ![4, 256, L]⟩ [0, 2, 1] s ht) hc (ix4 b k y z) = s (ix3 b l k) := by
  refine (shapeCast_apply _ hc _ (ix3 b k l) ?_).trans (transpose_apply _ _ ht _ _ fun a => ?_)
  · rw [Shape.rowMajor_val_four, Shape.rowMajor_val_three]
    show (b.val * 256 + k.val) * L + l.val = ((b.val * 256 + k.val) * H + y.val) * W + z.val
    rw [hl, hL]
    ring
  · match a with
    | ⟨0, _⟩ => rfl
    | ⟨1, _⟩ => rfl
    | ⟨2, _⟩ => rfl

end Layout

end Cert.Spec

end
-- ==== Proof.KernelValue.lean ====
/- The values the kernel's program ends with, over the extended reals: its four results are the two perceptron maps and the two copied maps. -/
module

public import proofs.«01_k».proof.Proof.Data
public import proofs.«01_k».proof.Proof.Spec

@[expose] public section

set_option maxRecDepth 16384

noncomputable section

namespace Cert.KernelIdeal.Hand

open Cert.KernelIdeal Cert.KernelIdeal.Gen
open Idealize.ShloMosaic hiding ix1 ix2 ix3 ix4 eq_ix1 eq_ix2 eq_ix3 eq_ix4
open Idealize.ShloMosaic.TcCoe Idealize.ShloMosaic.Tactic Idealize.ShloMosaic.ValueIdx
open Idealize.SL Idealize.SL.Sem
open Idealize.ShloMosaic.Pipeline (Dat Cfg Window)
open Cert.Spec (mlp mapMlp)
open scoped BigOperators

variable (m : (ℓ : Loc nD τ sig) → Buf (Elt Ideal) ℓ) (ρ : Dev nD → PrngReg)

/-! ## The stored payloads, row by row -/

/-- A bias row copied into every row. -/
theorem bias_row {M N : ℕ} (v : (⟨2, ![1, N]⟩ : Shape).Idx → EReal) (hs : (⟨2, ![1, N]⟩ : Shape).ShapeCasts ⟨2, ![1, N]⟩)
    (hb : (⟨2, ![1, N]⟩ : Shape).Broadcasts ⟨2, ![M, N]⟩) (r : Fin M) (n : Fin N) :
    broadcastTo ⟨2, ![M, N]⟩ (shapeCast ⟨2, ![1, N]⟩ v hs) hb (ix2 r n) = v (ix2 0 n) := by
  rw [shapeCast_self]
  refine broadcastTo_apply v hb _ _ fun a => ?_
  match a with
  | ⟨0, _⟩ => rfl
  | ⟨1, _⟩ =>
    show n.val = if N = 1 then 0 else n.val
    split
    · have := n.isLt; omega
    · rfl

/-- The block stored into the first result is the perceptron of the block of tokens read, row by row: a change of float format is the identity. -/
theorem pay3_rows (W1 : Vec Ideal S256x1024 .f32) (W2 : Vec Ideal S1024x256 .f32) (X : Vec Ideal S2048x256 .f32) (b1 : Vec Ideal S1x1024 .f32)
    (b2 : Vec Ideal S1x256 .f32) (r : Fin 2048) (n : Fin 256) :
    k0_pay3 W1 W2 X b1 b2 (ix2 r n)
      = mlp (fun k => X (ix2 r k)) (fun k h => W1 (ix2 k h)) (fun h => b1 (ix2 0 h)) (fun h n => W2 (ix2 h n)) (fun n => b2 (ix2 0 n)) n := by
  unfold k0_pay3 k0_pay1 k0_pay2
  simp only [matmul_zero_eq_dotGeneral, shapeCast_self X]
  exact Cert.Spec.mlp_rows (M := 2048) X W1 _ _ W2 _ r n _ (bias_row b1 _ _ r) _ (bias_row b2 _ _ r) fun _ => Ideal.ofBits_zero_f32

/-- And the block stored into the second. -/
theorem pay4_rows (W1 : Vec Ideal S256x1024 .f32) (W2 : Vec Ideal S1024x256 .f32) (X : Vec Ideal S2048x256 .f32) (b1 : Vec Ideal S1x1024 .f32)
    (b2 : Vec Ideal S1x256 .f32) (r : Fin 2048) (n : Fin 256) :
    k0_pay4 W1 W2 X b1 b2 (ix2 r n)
      = mlp (fun k => X (ix2 r k)) (fun k h => W1 (ix2 k h)) (fun h => b1 (ix2 0 h)) (fun h n => W2 (ix2 h n)) (fun n => b2 (ix2 0 n)) n :=
  pay3_rows W1 W2 X b1 b2 r n

/-! ## The result arrays after the pipeline -/

/-- The perceptron of a matrix of tokens with the weights and biases the pipeline finds. -/
def rowsMlp {M : ℕ} (c : Dev nD) (X : (⟨2, ![M, 256]⟩ : Shape).Idx → EReal) : (⟨2, ![M, 256]⟩ : Shape).Idx → EReal :=
  fun i => mlp (fun k => X (ix2 (i 0) k)) (fun k h => (V m c main_arg4 : S256x1024.Idx → EReal) (ix2 k h))
    (fun h => (V m c main_v8 : S1x1024.Idx → EReal) (ix2 0 h)) (fun h n => (V m c main_arg6 : S1024x256.Idx → EReal) (ix2 h n))
    (fun n => (V m c main_v9 : S1x256.Idx → EReal) (ix2 0 n)) (i 1)

/-- The block the body leaves for the first result at point `t`: rows `2048 * min t 7` on. -/
theorem out8_rows (c : Dev nD) (t : Fin cfg0.N) (r : Fin 2048) (n : Fin 256) :
    out8 m c t (ix2 r n) = rowsMlp m c (V m c main_v1 : S16384x256.Idx → EReal) (ix2 ⟨min t.val 7 * 2048 + r.val, by omega⟩ n) := by
  unfold out8
  refine (pay3_rows _ _ _ _ _ r n).trans ?_
  rw [iblk_4, iblk_5, iblk_6, iblk_7]
  simp only [iblk_0]
  rfl

/-- The block the body leaves for the second at point `t`: rows `2048 * (t - 8)` on. -/
theorem out9_rows (c : Dev nD) (t : Fin cfg0.N) (r : Fin 2048) (n : Fin 256) :
    out9 m c t (ix2 r n) = rowsMlp m c (V m c main_v3 : S4096x256.Idx → EReal) (ix2 ⟨(t.val - 8) * 2048 + r.val, by
          have := lt_of_lt_of_eq t.isLt (show cfg0.N = 10 from N_0); omega⟩ n) := by
  unfold out9
  refine (pay4_rows _ _ _ _ _ r n).trans ?_
  rw [iblk_4, iblk_5, iblk_6, iblk_7]
  simp only [iblk_1]
  rfl

/-- The first result array ends holding the perceptron of the first token array. -/
theorem final_8 (c : Dev nD) : (dats m 0 c).arrAt 8 cfg0.N = rowsMlp m c (V m c main_v1 : S16384x256.Idx → EReal) := by
  refine (dats m 0 c).arrAt_eq_of_covers 8 _ (by decide +kernel) fun t hf y => ?_
  show (dats m 0 c).after 8 t y = rowsMlp m c (V m c main_v1 : S16384x256.Idx → EReal) ((win0_8.rect t).emb y)
  rw [after_8]
  refine (congrArg (out8 m c t) (eq_ix2 (n0 := 2048) (n1 := 256) y)).trans ((out8_rows m c t _ _).trans (congrArg _ (funext fun a => Fin.ext ?_)))
  refine Eq.trans ?_ (win0_8.rect_emb_val t y a).symm
  match a with
  | ⟨0, _⟩ => show _ = cc0_transform_8 (grid0.coords t) 0 * 2048 + (y 0).val; rw [index_8]; rfl
  | ⟨1, _⟩ => show _ = cc0_transform_8 (grid0.coords t) 1 * 256 + (y 1).val; rw [index_8]; exact (Nat.zero_add _).symm

/-- The second, of the second token array. -/
theorem final_9 (c : Dev nD) : (dats m 0 c).arrAt 9 cfg0.N = rowsMlp m c (V m c main_v3 : S4096x256.Idx → EReal) := by
  refine (dats m 0 c).arrAt_eq_of_covers 9 _ (by decide +kernel) fun t hf y => ?_
  show (dats m 0 c).after 9 t y = rowsMlp m c (V m c main_v3 : S4096x256.Idx → EReal) ((win0_9.rect t).emb y)
  rw [after_9]
  refine (congrArg (out9 m c t) (eq_ix2 (n0 := 2048) (n1 := 256) y)).trans ((out9_rows m c t _ _).trans (congrArg _ (funext fun a => Fin.ext ?_)))
  refine Eq.trans ?_ (win0_9.rect_emb_val t y a).symm
  match a with
  | ⟨0, _⟩ => show _ = cc0_transform_9 (grid0.coords t) 0 * 2048 + (y 0).val; rw [index_9]; rfl
  | ⟨1, _⟩ => show _ = cc0_transform_9 (grid0.coords t) 1 * 256 + (y 1).val; rw [index_9]; exact (Nat.zero_add _).symm

/-- The last point of the grid. -/
def lastPoint : Fin cfg0.N := ⟨9, by decide⟩

/-- The third is a copy of the third token array. -/
theorem final_10 (c : Dev nD) : (dats m 0 c).arrAt 10 cfg0.N = (V m c main_v5 : S1024x256.Idx → EReal) := by
  refine (dats m 0 c).arrAt_eq_of_after_last 10 lastPoint (by decide +kernel) _ fun j => ?_
  rw [after_10, iblk_2]
  unfold k0_pay5
  rw [shapeCast_self]
  rfl

/-- And the fourth of the fourth. -/
theorem final_11 (c : Dev nD) : (dats m 0 c).arrAt 11 cfg0.N = (V m c main_v7 : S256x256.Idx → EReal) := by
  refine (dats m 0 c).arrAt_eq_of_after_last 11 lastPoint (by decide +kernel) _ fun j => ?_
  rw [after_11, iblk_3]
  unfold k0_pay6
  rw [shapeCast_self]
  rfl

/-! ## What the pipeline finds -/

theorem V_v1 (c : Dev nD) : V m c main_v1 = shapeCast S16384x256 (transpose S4x64x64x256 [0, 2, 3, 1] (m ((c : Thread nD τ).loc main_arg0)) transposes_S4x256x64x64_S4x64x64x256_0_2_3_1) shapeCasts_S4x64x64x256_S16384x256 := by
  show StableHlo.after hostOps0 _ _ = _
  after_results
  rfl
theorem V_v3 (c : Dev nD) : V m c main_v3 = shapeCast S4096x256 (transpose S4x32x32x256 [0, 2, 3, 1] (m ((c : Thread nD τ).loc main_arg1)) transposes_S4x256x32x32_S4x32x32x256_0_2_3_1) shapeCasts_S4x32x32x256_S4096x256 := by
  show StableHlo.after hostOps0 _ _ = _
  after_results
  rfl
theorem V_v5 (c : Dev nD) : V m c main_v5 = shapeCast S1024x256 (transpose S4x16x16x256 [0, 2, 3, 1] (m ((c : Thread nD τ).loc main_arg2)) transposes_S4x256x16x16_S4x16x16x256_0_2_3_1) shapeCasts_S4x16x16x256_S1024x256 := by
  show StableHlo.after hostOps0 _ _ = _
  after_results
  rfl
theorem V_v7 (c : Dev nD) : V m c main_v7 = shapeCast S256x256 (transpose S4x8x8x256 [0, 2, 3, 1] (m ((c : Thread nD τ).loc main_arg3)) transposes_S4x256x8x8_S4x8x8x256_0_2_3_1) shapeCasts_S4x8x8x256_S256x256 := by
  show StableHlo.after hostOps0 _ _ = _
  after_results
  rfl
theorem V_v8 (c : Dev nD) : V m c main_v8 = shapeCast S1x1024 (m ((c : Thread nD τ).loc main_arg5)) shapeCasts_S1024_S1x1024 := by
  show StableHlo.after hostOps0 _ _ = _
  after_results
  rfl
theorem V_v9 (c : Dev nD) : V m c main_v9 = shapeCast S1x256 (m ((c : Thread nD τ).loc main_arg7)) shapeCasts_S256_S1x256 := by
  show StableHlo.after hostOps0 _ _ = _
  after_results
  rfl

/-! ## The results -/

/-- What the host operations after the pipeline leave in the four result buffers, from the contents `σ` they start with. -/
theorem tail_v12 (σ : Valuation τ sig (Elt Ideal)) : StableHlo.after hostOps1 σ (Proc.devRef .tc main_v12)
    = transpose S4x256x64x64 [0, 3, 1, 2] (shapeCast S4x64x64x256 (σ (Proc.devRef .tc main_v10_0) : S16384x256.Idx → EReal) shapeCasts_S16384x256_S4x64x64x256) transposes_S4x64x64x256_S4x256x64x64_0_3_1_2 := by
  after_results
  rfl
theorem tail_v14 (σ : Valuation τ sig (Elt Ideal)) : StableHlo.after hostOps1 σ (Proc.devRef .tc main_v14)
    = transpose S4x256x32x32 [0, 3, 1, 2] (shapeCast S4x32x32x256 (σ (Proc.devRef .tc main_v10_1) : S4096x256.Idx → EReal) shapeCasts_S4096x256_S4x32x32x256) transposes_S4x32x32x256_S4x256x32x32_0_3_1_2 := by
  after_results
  rfl
theorem tail_v16 (σ : Valuation τ sig (Elt Ideal)) : StableHlo.after hostOps1 σ (Proc.devRef .tc main_v16)
    = transpose S4x256x16x16 [0, 3, 1, 2] (shapeCast S4x16x16x256 (σ (Proc.devRef .tc main_v10_2) : S1024x256.Idx → EReal) shapeCasts_S1024x256_S4x16x16x256) transposes_S4x16x16x256_S4x256x16x16_0_3_1_2 := by
  after_results
  rfl
theorem tail_v18 (σ : Valuation τ sig (Elt Ideal)) : StableHlo.after hostOps1 σ (Proc.devRef .tc main_v18)
    = transpose S4x256x8x8 [0, 3, 1, 2] (shapeCast S4x8x8x256 (σ (Proc.devRef .tc main_v10_3) : S256x256.Idx → EReal) shapeCasts_S256x256_S4x8x8x256) transposes_S4x8x8x256_S4x256x8x8_0_3_1_2 := by
  after_results
  rfl

/-- The contents the host operations after the pipeline start with: the windows' arrays as the pipeline left them. -/
def afterRegion (c : Dev nD) : Valuation τ sig (Elt Ideal) :=
  Pipeline.withArrays spec0 c (V0 m c) fun w => (dats m 0 c).arrAt w cfg0.N

theorem afterRegion_arr (c : Dev nD) (w : Fin cfg0.W) :
    afterRegion m c (Proc.devRef .tc (Pipeline.arrRef spec0 w)) = (dats m 0 c).arrAt w cfg0.N :=
  Pipeline.withArrays_arr _ (by decide) c _ _ w

/-- A map laid out as tokens, put through the perceptron and laid out as a map again is the perceptron map of it. -/
theorem map_rowsMlp {H W N : ℕ} (hN : N = 4 * H * W) (c : Dev nD) (x : (⟨4, ![4, 256, H, W]⟩ : Shape).Idx → EReal)
    (ht : (⟨4, ![4, 256, H, W]⟩ : Shape).Transposes [0, 2, 3, 1] ⟨4, ![4, H, W, 256]⟩)
    (hc : (⟨4, ![4, H, W, 256]⟩ : Shape).ShapeCasts ⟨2, ![N, 256]⟩)
    (hc' : (⟨2, ![N, 256]⟩ : Shape).ShapeCasts ⟨4, ![4, H, W, 256]⟩)
    (ht' : (⟨4, ![4, H, W, 256]⟩ : Shape).Transposes [0, 3, 1, 2] ⟨4, ![4, 256, H, W]⟩) :
    transpose ⟨4, ![4, 256, H, W]⟩ [0, 3, 1, 2] (shapeCast ⟨4, ![4, H, W, 256]⟩
        (rowsMlp m c (shapeCast ⟨2, ![N, 256]⟩ (transpose ⟨4, ![4, H, W, 256]⟩ [0, 2, 3, 1] x ht) hc)) hc') ht'
      = mapMlp x (m ((c : Thread nD τ).loc main_arg4) : S256x1024.Idx → EReal) (m ((c : Thread nD τ).loc main_arg5) : S1024.Idx → EReal)
          (m ((c : Thread nD τ).loc main_arg6) : S1024x256.Idx → EReal) (m ((c : Thread nD τ).loc main_arg7) : S256.Idx → EReal) := by
  funext i
  obtain ⟨b, k, y, z, rfl⟩ : ∃ (b : Fin 4) (k : Fin 256) (y : Fin H) (z : Fin W), i = ix4 b k y z := ⟨_, _, _, _, eq_ix4 i⟩
  have hr := Cert.Spec.row_lt hN b y z
  refine (Cert.Spec.map_of_rows _ hc' ht' b y z k ⟨_, hr⟩ rfl).trans ?_
  unfold rowsMlp mapMlp
  rw [V_v8, V_v9, V_main_arg4, V_main_arg6]
  congr 1
  · funext k'
    exact Cert.Spec.rows_of_map x ht hc b y z k' ⟨_, hr⟩ rfl
  · funext h
    refine shapeCast_apply _ _ _ (ix1 h) ?_
    rw [Shape.rowMajor_val_one, Shape.rowMajor_val_two]
    show h.val = 0 * 1024 + h.val
    omega
  · funext n
    refine shapeCast_apply _ _ _ (ix1 n) ?_
    rw [Shape.rowMajor_val_one, Shape.rowMajor_val_two]
    show n.val = 0 * 256 + n.val
    omega

/-- The first result is the perceptron map of the first feature map. -/
theorem value_v12 (c : Dev nD) : Pipeline.afterTail₀ cfgs (dats m) 0 (V0 m) [hostOps1] c main_v12
    = mapMlp (m ((c : Thread nD τ).loc main_arg0) : S4x256x64x64.Idx → EReal) (m ((c : Thread nD τ).loc main_arg4) : S256x1024.Idx → EReal)
        (m ((c : Thread nD τ).loc main_arg5) : S1024.Idx → EReal) (m ((c : Thread nD τ).loc main_arg6) : S1024x256.Idx → EReal)
        (m ((c : Thread nD τ).loc main_arg7) : S256.Idx → EReal) := by
  refine (tail_v12 (afterRegion m c)).trans ?_
  rw [show afterRegion m c (Proc.devRef .tc main_v10_0) = _ from (afterRegion_arr m c 8).trans (final_8 m c), V_v1]
  exact map_rowsMlp m (H := 64) (W := 64) (by decide) c _ _ _ _ _

/-- The second, of the second. -/
theorem value_v14 (c : Dev nD) : Pipeline.afterTail₀ cfgs (dats m) 0 (V0 m) [hostOps1] c main_v14
    = mapMlp (m ((c : Thread nD τ).loc main_arg1) : S4x256x32x32.Idx → EReal) (m ((c : Thread nD τ).loc main_arg4) : S256x1024.Idx → EReal)
        (m ((c : Thread nD τ).loc main_arg5) : S1024.Idx → EReal) (m ((c : Thread nD τ).loc main_arg6) : S1024x256.Idx → EReal)
        (m ((c : Thread nD τ).loc main_arg7) : S256.Idx → EReal) := by
  refine (tail_v14 (afterRegion m c)).trans ?_
  rw [show afterRegion m c (Proc.devRef .tc main_v10_1) = _ from (afterRegion_arr m c 9).trans (final_9 m c), V_v3]
  exact map_rowsMlp m (H := 32) (W := 32) (by decide) c _ _ _ _ _

/-- The third is the third feature map. -/
theorem value_v16 (c : Dev nD) : Pipeline.afterTail₀ cfgs (dats m) 0 (V0 m) [hostOps1] c main_v16
    = (m ((c : Thread nD τ).loc main_arg2) : S4x256x16x16.Idx → EReal) := by
  refine (tail_v16 (afterRegion m c)).trans ?_
  rw [show afterRegion m c (Proc.devRef .tc main_v10_2) = _ from (afterRegion_arr m c 10).trans (final_10 m c), V_v5]
  exact Cert.Spec.map_rows (H := 16) (W := 16) (by decide) _ _ _ _ _

/-- The fourth is the fourth. -/
theorem value_v18 (c : Dev nD) : Pipeline.afterTail₀ cfgs (dats m) 0 (V0 m) [hostOps1] c main_v18
    = (m ((c : Thread nD τ).loc main_arg3) : S4x256x8x8.Idx → EReal) := by
  refine (tail_v18 (afterRegion m c)).trans ?_
  rw [show afterRegion m c (Proc.devRef .tc main_v10_3) = _ from (afterRegion_arr m c 11).trans (final_11 m c), V_v7]
  exact Cert.Spec.map_rows (H := 8) (W := 8) (by decide) _ _ _ _ _

/-- Every run of the kernel's program ends with the four results at these values and its arguments unchanged. -/
theorem run_values : θ_run defs (onTc main) ⟨m, fun _ => 0, ρ⟩ (fun r => ∀ c : Dev nD,
      r.2.mem ((c : Thread nD τ).loc main_v12)
          = mapMlp (m ((c : Thread nD τ).loc main_arg0) : S4x256x64x64.Idx → EReal) (m ((c : Thread nD τ).loc main_arg4) : S256x1024.Idx → EReal)
              (m ((c : Thread nD τ).loc main_arg5) : S1024.Idx → EReal) (m ((c : Thread nD τ).loc main_arg6) : S1024x256.Idx → EReal)
              (m ((c : Thread nD τ).loc main_arg7) : S256.Idx → EReal)
      ∧ r.2.mem ((c : Thread nD τ).loc main_v14)
          = mapMlp (m ((c : Thread nD τ).loc main_arg1) : S4x256x32x32.Idx → EReal) (m ((c : Thread nD τ).loc main_arg4) : S256x1024.Idx → EReal)
              (m ((c : Thread nD τ).loc main_arg5) : S1024.Idx → EReal) (m ((c : Thread nD τ).loc main_arg6) : S1024x256.Idx → EReal)
              (m ((c : Thread nD τ).loc main_arg7) : S256.Idx → EReal)
      ∧ r.2.mem ((c : Thread nD τ).loc main_v16) = m ((c : Thread nD τ).loc main_arg2)
      ∧ r.2.mem ((c : Thread nD τ).loc main_v18) = m ((c : Thread nD τ).loc main_arg3)) :=
  (θ_run defs (onTc main) _).mono (fun r h c => by
    have hp := h.1
    exact ⟨(hp.rest_eq c main_v12 (Pipeline.mem_restRefs_of main_v12 (by decide) (by decide))).trans (value_v12 m c),
      (hp.rest_eq c main_v14 (Pipeline.mem_restRefs_of main_v14 (by decide) (by decide))).trans (value_v14 m c),
      (hp.rest_eq c main_v16 (Pipeline.mem_restRefs_of main_v16 (by decide) (by decide))).trans (value_v16 m c),
      (hp.rest_eq c main_v18 (Pipeline.mem_restRefs_of main_v18 (by decide) (by decide))).trans (value_v18 m c)⟩) (run_main m ρ)

end Cert.KernelIdeal.Hand

end
-- ==== Proof.RefOps.lean ====
/- The reference's data movement, read at an index: the table of active tokens is 0, 1, …, 5119, so taking the active tokens out of the sequence
   of all tokens reads the first 5120 of them, and putting the new tokens back replaces exactly those. -/
module

public import proofs.«01_k».proof.Proof.Gen.ReferenceIdeal.Run
public import proofs.«01_k».proof.Proof.Spec
public import Idealize.ShloMosaic.Lib.IdealHost
public import Idealize.ShloMosaic.Lib.ReduceAll
public import Idealize.ShloMosaic.Lib.Routing.OpsSet

@[expose] public section

set_option maxRecDepth 16384

noncomputable section

namespace Cert.ReferenceIdeal.Hand

open Cert.ReferenceIdeal Cert.ReferenceIdeal.Gen
open Idealize.ShloMosaic
open Idealize.ShloMosaic.ValueIdx
open scoped BigOperators

variable {α : Type}

/-! ## The table of active tokens -/

/-- The table's entries, 128 to a row. -/
theorem table_row : ∀ (q : Fin 40) (r : Fin 128), lit0t (q.val * 128 + r.val) = BitVec.ofNat 32 (q.val * 128 + r.val) := by decide +kernel

/-- Entry `n` of the table is `n`. -/
theorem table (n : Fin 5120) : lit0 n = BitVec.ofNat 32 n.val := by
  have h := table_row ⟨n.val / 128, by have := n.isLt; omega⟩ ⟨n.val % 128, Nat.mod_lt _ (by decide)⟩
  have e : n.val / 128 * 128 + n.val % 128 = n.val := Nat.div_add_mod' n.val 128
  show lit0t n.val = _
  simpa only [e] using h

/-- The table as the reference indexes with it: an entry below zero would count from the end of the sequence. -/
def idxCol : IVec S5120x1 32 :=
  broadcastInDim S5120x1 ![0] bcast_S5120_S5120x1_0 (select (cmpi .slt (fun i => lit0 (S5120.rowMajor i)) (broadcastInDim S5120 ![] bcast_S_S5120 (constantI S_ 32 0#32)))
    (addi (fun i => lit0 (S5120.rowMajor i)) (broadcastInDim S5120 ![] bcast_S_S5120 (constantI S_ 32 5440#32))) (fun i => lit0 (S5120.rowMajor i)))

/-- A word below 5120 reads back as its number. -/
theorem word_toInt (n : Fin 5120) : (BitVec.ofNat 32 n.val).toInt = (n.val : Int) := by
  have := n.isLt
  rw [BitVec.toInt_ofNat', Int.bmod_def]
  omega

/-- No entry below 5120 is negative as a signed word. -/
theorem word_slt (n : Fin 5120) : IntOp.cmpi .slt (BitVec.ofNat 32 n.val) 0#32 = 0#1 := by
  show BitVec.ofBool ((BitVec.ofNat 32 n.val).slt 0#32) = 0#1
  rw [BitVec.slt, word_toInt, decide_eq_false (by rw [BitVec.toInt_zero]; omega)]
  rfl

/-- It is at least zero. -/
theorem word_sge (n : Fin 5120) : IntOp.cmpi .sge (BitVec.ofNat 32 n.val) 0#32 = 1#1 := by
  show BitVec.ofBool ((0#32).sle (BitVec.ofNat 32 n.val)) = 1#1
  rw [BitVec.sle, word_toInt, decide_eq_true (by rw [BitVec.toInt_zero]; omega)]
  rfl

/-- And at most the last token's number. -/
theorem word_sle (n : Fin 5120) : IntOp.cmpi .sle (BitVec.ofNat 32 n.val) 5439#32 = 1#1 := by
  show BitVec.ofBool ((BitVec.ofNat 32 n.val).sle 5439#32) = 1#1
  rw [BitVec.sle, word_toInt, decide_eq_true (by have := n.isLt; rw [show (5439#32).toInt = 5439 by decide]; omega)]
  rfl

/-- So its entry `n` is `n`. -/
theorem idxCol_apply (n : Fin 5120) (z : Fin 1) : idxCol (ix2 n z) = BitVec.ofNat 32 n.val := by
  unfold idxCol
  refine (broadcastInDim_apply ![0] bcast_S5120_S5120x1_0 _ _ (ix1 n) fun a => ?_).trans ?_
  · match a with
    | ⟨0, _⟩ => rfl
  · have e : (fun i : S5120.Idx => lit0 (S5120.rowMajor i)) (ix1 n) = BitVec.ofNat 32 n.val := by
      have en : (S5120.rowMajor (ix1 n) : Fin 5120) = n := Fin.ext (Shape.rowMajor_val_one _)
      exact (congrArg lit0 en).trans (table n)
    rw [select_apply]
    show Scalar.select (IntOp.cmpi .slt ((fun i : S5120.Idx => lit0 (S5120.rowMajor i)) (ix1 n)) 0#32) _ ((fun i : S5120.Idx => lit0 (S5120.rowMajor i)) (ix1 n)) = _
    rw [e, word_slt, select_zero]

/-- The bounds test of the taking: every active token's number is inside the sequence. -/
def inside : IVec S5120 1 :=
  Host.reduce IntOp.andi (andi (cmpi .sge idxCol (broadcastInDim S5120x1 ![] bcast_S_S5120x1 (constantI S_ 32 0#32)))
    (cmpi .sle idxCol (broadcastInDim S5120x1 ![0, 1] bcast_S1x1_S5120x1_0_1 (broadcastInDim S1x1 ![1] bcast_S1_S1x1_1 (constantI S1 32 5439#32)))))
    (constantI S_ 1 1#1) reducesTo_S5120x1_S5120_d1 h_S_

/-- It always succeeds. -/
theorem inside_apply (j : S5120.Idx) : inside j = 1#1 := by
  refine Host.reduce_andi_one _ _ _ _ j rfl fun i => ?_
  obtain ⟨n, z, rfl⟩ : ∃ (n : Fin 5120) (z : Fin 1), i = ix2 n z := ⟨_, _, eq_ix2 i⟩
  show IntOp.andi (IntOp.cmpi .sge (idxCol (ix2 n z)) 0#32) (IntOp.cmpi .sle (idxCol (ix2 n z)) 5439#32) = 1#1
  rw [idxCol_apply, word_sge, word_sle]
  rfl

/-! ## Taking and putting back -/

/-- Taking tokens out of the sequence: token `n` of batch `b` is the one its index word names. -/
theorem take_apply (x : S4x5440x256.Idx → α) (idx : IVec S5120x1 32) (b : Fin 4) (n : Fin 5120) (k : Fin 256) (l : Fin 5440)
    (hl : (idx (ix2 n 0)).toInt = (l.val : Int)) :
    Host.gather gather_S4x5440x256_S5120x1_S4x5120x256_02_1_n_n_1_1_41256 x idx (ix3 b n k) = x (ix3 b l k) := by
  set D := gather_S4x5440x256_S5120x1_S4x5120x256_02_1_n_n_1_1_41256 with hD
  have e : D.siIdx (ix3 b n k) ⟨D.startIndexMap.idxOf 1, by decide⟩ = ix2 n 0 := by
    funext c
    match c with
    | ⟨0, _⟩ => rfl
    | ⟨1, _⟩ => rfl
  have h0 : D.start (ix3 b n k) idx 0 + D.offCoord (ix3 b n k) 0 = b.val := by
    unfold GatherDims.start GatherDims.offCoord
    rw [dif_neg (by decide), dif_pos (by decide)]
    exact Nat.zero_add _
  have h1 : D.start (ix3 b n k) idx 1 + D.offCoord (ix3 b n k) 1 = l.val := by
    unfold GatherDims.start GatherDims.offCoord
    rw [dif_pos (by decide), dif_neg (by decide)]
    refine (congrArg (fun q => min (idx q).toInt.toNat (5440 - 1)) e).trans ?_
    show min (idx (ix2 n 0)).toInt.toNat (5440 - 1) = l.val
    rw [hl, Int.toNat_natCast]
    have := l.isLt
    omega
  have h2 : D.start (ix3 b n k) idx 2 + D.offCoord (ix3 b n k) 2 = k.val := by
    unfold GatherDims.start GatherDims.offCoord
    rw [dif_neg (by decide), dif_pos (by decide)]
    exact Nat.zero_add _
  unfold Host.gather
  congr 1
  funext a
  refine Fin.ext ?_
  show D.start (ix3 b n k) idx a + D.batchCoord (ix3 b n k) a + D.offCoord (ix3 b n k) a = _
  rw [GatherDims.batchCoord_eq_zero _ _ _ List.not_mem_nil, Nat.add_zero]
  match a with
  | ⟨0, _⟩ => exact h0
  | ⟨1, _⟩ => exact h1
  | ⟨2, _⟩ => exact h2

/-- Where an update lands: update `(b, n, k)` at the token its index word names, same batch and channel. -/
theorem put_lands (idx : IVec S5120x1 32) (b : Fin 4) (n : Fin 5120) (k : Fin 256) (l : Fin 5440) (hl : (idx (ix2 n 0)).toInt = (l.val : Int)) :
    scatter_S4x5440x256_S5120x1_S4x5120x256_02_1_1_1.resultIdx? (ix3 b n k) idx = some (ix3 b l k) := by
  set D := scatter_S4x5440x256_S5120x1_S4x5120x256_02_1_1_1 with hD
  have e : D.siIdx (ix3 b n k) ⟨D.scatterDimsToOperandDims.idxOf 1, by decide⟩ = ix2 n 0 := by
    funext c
    match c with
    | ⟨0, _⟩ => rfl
    | ⟨1, _⟩ => rfl
  have h0 : D.start (ix3 b n k) idx 0 + D.window (ix3 b n k) 0 = (b.val : Int) := by
    unfold ScatterDims.start ScatterDims.window
    rw [dif_neg (by decide), dif_pos (by decide)]
    exact Int.zero_add _
  have h1 : D.start (ix3 b n k) idx 1 + D.window (ix3 b n k) 1 = (l.val : Int) := by
    unfold ScatterDims.start ScatterDims.window
    rw [dif_pos (by decide), dif_neg (by decide)]
    exact (Int.add_zero _).trans ((congrArg (fun q => (idx q).toInt) e).trans hl)
  have h2 : D.start (ix3 b n k) idx 2 + D.window (ix3 b n k) 2 = (k.val : Int) := by
    unfold ScatterDims.start ScatterDims.window
    rw [dif_neg (by decide), dif_pos (by decide)]
    exact Int.zero_add _
  have hall : ∀ a : Fin 3, D.start (ix3 b n k) idx a + D.window (ix3 b n k) a = (((ix3 b l k : S4x5440x256.Idx) a).val : Int) := fun a =>
    match a with
    | ⟨0, _⟩ => h0
    | ⟨1, _⟩ => h1
    | ⟨2, _⟩ => h2
  unfold ScatterDims.resultIdx?
  rw [dif_pos fun a => by rw [hall a]; exact ⟨Int.natCast_nonneg _, Int.ofNat_lt.mpr ((ix3 b l k : S4x5440x256.Idx) a).isLt⟩]
  refine congrArg some (funext fun a => Fin.ext ?_)
  show (D.start (ix3 b n k) idx a + D.window (ix3 b n k) a).toNat = _
  rw [hall a]
  exact Int.toNat_natCast _

/-- Putting updates back at the tokens 0 to 5119: one of those holds its update, -/
theorem put_hit (x : S4x5440x256.Idx → α) (upd : S4x5120x256.Idx → α) (b : Fin 4) (n : Fin 5120) (k : Fin 256) (l : Fin 5440) (hl : l.val = n.val) :
    Host.scatter scatter_S4x5440x256_S5120x1_S4x5120x256_02_1_1_1 (fun _ b => b) x idxCol upd (ix3 b l k) = upd (ix3 b n k) := by
  refine Routing.scatter_set_hit _ x idxCol upd _ _ (fun j hj => ?_) (ix3 b n k)
    (put_lands idxCol b n k l (by rw [idxCol_apply, word_toInt, hl]))
  obtain ⟨b', n', k', rfl⟩ : ∃ (b' : Fin 4) (n' : Fin 5120) (k' : Fin 256), j = ix3 b' n' k' := ⟨_, _, _, eq_ix3 j⟩
  rw [put_lands idxCol b' n' k' ⟨n'.val, by have := n'.isLt; omega⟩ (by rw [idxCol_apply, word_toInt])] at hj
  have hj := Option.some.inj hj
  have e0 : b' = b := congrFun hj 0
  have e1 : n'.val = l.val := congrArg Fin.val (congrFun hj 1)
  have e2 : k' = k := congrFun hj 2
  rw [e0, e2, show n' = n from Fin.ext (e1.trans hl)]

/-- and every other token is what it was. -/
theorem put_miss (x : S4x5440x256.Idx → α) (upd : S4x5120x256.Idx → α) (b : Fin 4) (k : Fin 256) (l : Fin 5440) (hl : 5120 ≤ l.val) :
    Host.scatter scatter_S4x5440x256_S5120x1_S4x5120x256_02_1_1_1 (fun _ b => b) x idxCol upd (ix3 b l k) = x (ix3 b l k) := by
  refine Routing.scatter_set_miss _ x idxCol upd _ fun j hj => ?_
  obtain ⟨b', n', k', rfl⟩ : ∃ (b' : Fin 4) (n' : Fin 5120) (k' : Fin 256), j = ix3 b' n' k' := ⟨_, _, _, eq_ix3 j⟩
  rw [put_lands idxCol b' n' k' ⟨n'.val, by have := n'.isLt; omega⟩ (by rw [idxCol_apply, word_toInt])] at hj
  have e1 : n'.val = l.val := congrArg Fin.val (congrFun (Option.some.inj hj) 1)
  have := n'.isLt
  omega

end Cert.ReferenceIdeal.Hand

end
-- ==== Proof.RefValue.lean ====
/- The values the reference ends with, over the extended reals: its four results are the two perceptron maps and the two maps it leaves alone. -/
module

public import proofs.«01_k».proof.Proof.RefOps

@[expose] public section

set_option maxRecDepth 16384

noncomputable section

namespace Cert.ReferenceIdeal.Hand

open Cert.ReferenceIdeal Cert.ReferenceIdeal.Gen
open Idealize.ShloMosaic
open Idealize.ShloMosaic.TcCoe Idealize.ShloMosaic.ValueIdx
open Cert.Spec (mlp mapMlp)
open scoped BigOperators

/-! ## The sequence of all tokens -/

section Tokens
variable (x0 : FVec Ideal S4x256x64x64 .f32) (x1 : FVec Ideal S4x256x32x32 .f32) (x2 : FVec Ideal S4x256x16x16 .f32) (x3 : FVec Ideal S4x256x8x8 .f32)

/-- The tokens of the four maps, one map after another. -/
def seqTokens : FVec Ideal S4x5440x256 .f32 :=
  concatenate S4x5440x256 1
    [⟨S4x4096x256, transpose S4x4096x256 [0, 2, 1] (shapeCast S4x256x4096 x0 shapeCasts_S4x256x64x64_S4x256x4096) transposes_S4x256x4096_S4x4096x256_0_2_1⟩,
      ⟨S4x1024x256, transpose S4x1024x256 [0, 2, 1] (shapeCast S4x256x1024 x1 shapeCasts_S4x256x32x32_S4x256x1024) transposes_S4x256x1024_S4x1024x256_0_2_1⟩,
      ⟨S4x256x256, transpose S4x256x256 [0, 2, 1] (shapeCast S4x256x256 x2 shapeCasts_S4x256x16x16_S4x256x256) transposes_S4x256x256_S4x256x256_0_2_1⟩,
      ⟨S4x64x256, transpose S4x64x256 [0, 2, 1] (shapeCast S4x256x64 x3 shapeCasts_S4x256x8x8_S4x256x64) transposes_S4x256x64_S4x64x256_0_2_1⟩]
    concatenates_S4x4096x256_S4x1024x256_S4x256x256_S4x64x256_S4x5440x256_d1

/-- Off the concatenated axis the coordinates of a piece are the sequence's. -/
theorem off_axis {L : ℕ} (b : Fin 4) (l' : Fin L) (l : Fin 5440) (k : Fin 256) (a : Fin 3) (ha : a ≠ 1) :
    ((ix3 b l' k : (⟨3, ![4, L, 256]⟩ : Shape).Idx) a).val = ((ix3 b l k : S4x5440x256.Idx) a).val :=
  match a, ha with
  | ⟨0, _⟩, _ => rfl
  | ⟨1, _⟩, ha => absurd rfl ha
  | ⟨2, _⟩, _ => rfl

/-- The first map's tokens come first, -/
theorem seqTokens_0 (b : Fin 4) (y : Fin 64) (z : Fin 64) (k : Fin 256) (l : Fin 5440) (hl : l.val = y.val * 64 + z.val) :
    seqTokens x0 x1 x2 x3 (ix3 b l k) = x0 (ix4 b k y z) := by
  unfold seqTokens
  refine (concatenate_apply_piece (t := S4x5440x256) 1 _ _ (ix3 b l k) 0 (by simp) S4x4096x256 _ rfl rfl 0 rfl
    (ix3 b (⟨y.val * 64 + z.val, by omega⟩ : Fin 4096) k) (fun a ha => off_axis b _ l k a ha) ?_).trans
    (Cert.Spec.seq_of_map x0 _ _ b y z k _ rfl rfl)
  show 0 + (y.val * 64 + z.val) = l.val
  omega

/-- then the second's, -/
theorem seqTokens_1 (b : Fin 4) (y : Fin 32) (z : Fin 32) (k : Fin 256) (l : Fin 5440) (hl : l.val = 4096 + (y.val * 32 + z.val)) :
    seqTokens x0 x1 x2 x3 (ix3 b l k) = x1 (ix4 b k y z) := by
  unfold seqTokens
  refine (concatenate_apply_piece (t := S4x5440x256) 1 _ _ (ix3 b l k) 1 (by simp) S4x1024x256 _ rfl rfl 4096 rfl
    (ix3 b (⟨y.val * 32 + z.val, by omega⟩ : Fin 1024) k) (fun a ha => off_axis b _ l k a ha) ?_).trans
    (Cert.Spec.seq_of_map x1 _ _ b y z k _ rfl rfl)
  exact hl.symm

/-- the third's -/
theorem seqTokens_2 (b : Fin 4) (y : Fin 16) (z : Fin 16) (k : Fin 256) (l : Fin 5440) (hl : l.val = 5120 + (y.val * 16 + z.val)) :
    seqTokens x0 x1 x2 x3 (ix3 b l k) = x2 (ix4 b k y z) := by
  unfold seqTokens
  refine (concatenate_apply_piece (t := S4x5440x256) 1 _ _ (ix3 b l k) 2 (by simp) S4x256x256 _ rfl rfl 5120 rfl
    (ix3 b (⟨y.val * 16 + z.val, by omega⟩ : Fin 256) k) (fun a ha => off_axis b _ l k a ha) ?_).trans
    (Cert.Spec.seq_of_map x2 _ _ b y z k _ rfl rfl)
  exact hl.symm

/-- and the fourth's. -/
theorem seqTokens_3 (b : Fin 4) (y : Fin 8) (z : Fin 8) (k : Fin 256) (l : Fin 5440) (hl : l.val = 5376 + (y.val * 8 + z.val)) :
    seqTokens x0 x1 x2 x3 (ix3 b l k) = x3 (ix4 b k y z) := by
  unfold seqTokens
  refine (concatenate_apply_piece (t := S4x5440x256) 1 _ _ (ix3 b l k) 3 (by simp) S4x64x256 _ rfl rfl 5376 rfl
    (ix3 b (⟨y.val * 8 + z.val, by omega⟩ : Fin 64) k) (fun a ha => off_axis b _ l k a ha) ?_).trans
    (Cert.Spec.seq_of_map x3 _ _ b y z k _ rfl rfl)
  exact hl.symm

end Tokens

/-! ## The new tokens -/

section New
variable (s : FVec Ideal S4x5440x256 .f32) (W1 : FVec Ideal S256x1024 .f32) (b1 : FVec Ideal S1024 .f32) (W2 : FVec Ideal S1024x256 .f32)
  (b2 : FVec Ideal S256 .f32)

/-- The active tokens of a sequence. -/
def active : FVec Ideal S4x5120x256 .f32 :=
  select (broadcastInDim S4x5120x256 ![1] bcast_S5120_S4x5120x256_1 inside)
    (Host.gather gather_S4x5440x256_S5120x1_S4x5120x256_02_1_n_n_1_1_41256 s idxCol)
    (broadcastInDim S4x5120x256 ![] bcast_S_S4x5120x256 (constant S_ .f32 0x7FC00000#32))

/-- They are its first 5120. -/
theorem active_apply (b : Fin 4) (n : Fin 5120) (k : Fin 256) (l : Fin 5440) (hl : l.val = n.val) : active s (ix3 b n k) = s (ix3 b l k) := by
  unfold active
  rw [select_apply, show broadcastInDim S4x5120x256 ![1] bcast_S5120_S4x5120x256_1 inside (ix3 b n k) = 1#1 from inside_apply _, select_one]
  exact take_apply s idxCol b n k l (by rw [idxCol_apply, word_toInt, hl])

/-- The perceptron of the active tokens, all batches' in one matrix. -/
def newTokens : FVec Ideal S4x5120x256 .f32 :=
  shapeCast S4x5120x256 (addf (Host.dotGeneral dot_S20480x1024_S1024x256_S20480x256_1_0_0_1_n_n none
      (maximumf (addf (Host.dotGeneral dot_S20480x256_S256x1024_S20480x1024_1_0_0_1_n_n none (shapeCast S20480x256 (active s) shapeCasts_S4x5120x256_S20480x256) W1)
          (broadcastInDim S20480x1024 ![0, 1] bcast_S1x1024_S20480x1024_0_1 (broadcastInDim S1x1024 ![1] bcast_S1024_S1x1024_1 b1)))
        (broadcastInDim S20480x1024 ![] bcast_S_S20480x1024 (constant S_ .f32 0x00000000#32))) W2)
      (broadcastInDim S20480x256 ![0, 1] bcast_S1x256_S20480x256_0_1 (broadcastInDim S1x256 ![1] bcast_S256_S1x256_1 b2)))
    shapeCasts_S20480x256_S4x5120x256

/-- A bias copied into every row. -/
theorem bias_row {M N : ℕ} (v : (⟨1, ![N]⟩ : Shape).Idx → EReal) (h1 : (⟨1, ![N]⟩ : Shape).BroadcastsInDim ⟨2, ![1, N]⟩ ![1])
    (h2 : (⟨2, ![1, N]⟩ : Shape).BroadcastsInDim ⟨2, ![M, N]⟩ ![0, 1]) (r : Fin M) (n : Fin N) :
    broadcastInDim ⟨2, ![M, N]⟩ ![0, 1] h2 (broadcastInDim ⟨2, ![1, N]⟩ ![1] h1 v) (ix2 r n) = v (ix1 n) := by
  rw [broadcastInDim_oneRow_apply]
  refine broadcastInDim_apply _ h1 v _ _ fun a => ?_
  match a with
  | ⟨0, _⟩ =>
    show n.val = if N = 1 then 0 else n.val
    split
    · have := n.isLt; omega
    · rfl

/-- New token `n` of batch `b` is the perceptron of the sequence's. -/
theorem newTokens_apply (b : Fin 4) (n : Fin 5120) (k : Fin 256) (l : Fin 5440) (hl : l.val = n.val) :
    newTokens s W1 b1 W2 b2 (ix3 b n k)
      = mlp (fun k' => s (ix3 b l k')) (fun k h => W1 (ix2 k h)) (fun h => b1 (ix1 h)) (fun h n => W2 (ix2 h n)) (fun n => b2 (ix1 n)) k := by
  have hR : b.val * 5120 + n.val < 20480 := by omega
  unfold newTokens
  refine (shapeCast_apply _ _ _ (ix2 (⟨b.val * 5120 + n.val, hR⟩ : Fin 20480) k) ?_).trans ?_
  · rw [Shape.rowMajor_val_two, Shape.rowMajor_val_three]
    rfl
  · refine (Cert.Spec.mlp_rows (M := 20480) _ W1 _ _ W2 _ _ k _ (bias_row b1 _ _ _) _ (bias_row b2 _ _ _) fun i => ?_).trans ?_
    · exact (broadcastInDim_scalar_apply _ _ _).trans Ideal.ofBits_zero_f32
    · refine congrArg (fun row => mlp row _ _ _ _ k) (funext fun k' => ?_)
      refine (shapeCast_apply _ _ _ (ix3 b n k') ?_).trans (active_apply s b n k' l hl)
      rw [Shape.rowMajor_val_two, Shape.rowMajor_val_three]
      rfl

/-- The sequence with the new tokens in place of the active ones. -/
def updated : FVec Ideal S4x5440x256 .f32 :=
  Host.scatter scatter_S4x5440x256_S5120x1_S4x5120x256_02_1_1_1 (fun _ b => b) s idxCol (newTokens s W1 b1 W2 b2)

/-- An active token of it is the perceptron of the old one, -/
theorem updated_active (b : Fin 4) (k : Fin 256) (l : Fin 5440) (hl : l.val < 5120) :
    updated s W1 b1 W2 b2 (ix3 b l k)
      = mlp (fun k' => s (ix3 b l k')) (fun k h => W1 (ix2 k h)) (fun h => b1 (ix1 h)) (fun h n => W2 (ix2 h n)) (fun n => b2 (ix1 n)) k :=
  (put_hit s _ b ⟨l.val, hl⟩ k l rfl).trans (newTokens_apply s W1 b1 W2 b2 b ⟨l.val, hl⟩ k l rfl)

/-- any other is the old one. -/
theorem updated_passive (b : Fin 4) (k : Fin 256) (l : Fin 5440) (hl : 5120 ≤ l.val) : updated s W1 b1 W2 b2 (ix3 b l k) = s (ix3 b l k) :=
  put_miss s _ b k l hl

end New

/-- A stretch of tokens cut out of a sequence, read at an index. -/
theorem cut_apply {L : ℕ} (o : ℕ) (s : S4x5440x256.Idx → EReal) (h : S4x5440x256.Slices ![0, o, 0] ⟨3, ![4, L, 256]⟩) (b : Fin 4) (l' : Fin L) (k : Fin 256)
    (l : Fin 5440) (hl : l.val = o + l'.val) : extractStridedSlice ⟨3, ![4, L, 256]⟩ ![0, o, 0] s h (ix3 b l' k) = s (ix3 b l k) := by
  refine extractStridedSlice_apply _ s h _ _ fun a => ?_
  match a with
  | ⟨0, _⟩ => exact (Nat.zero_add _).symm
  | ⟨1, _⟩ => exact hl
  | ⟨2, _⟩ => exact (Nat.zero_add _).symm

/-! ## The results -/

variable (m : (ℓ : Loc nD τ sig) → Buf (Elt Ideal) ℓ) (c : Dev nD)

/-- The updated sequence of a launch's arguments. -/
def finalTokens : FVec Ideal S4x5440x256 .f32 :=
  updated (seqTokens (m ((c : Thread nD τ).loc main_arg0)) (m ((c : Thread nD τ).loc main_arg1)) (m ((c : Thread nD τ).loc main_arg2)) (m ((c : Thread nD τ).loc main_arg3)))
    (m ((c : Thread nD τ).loc main_arg4)) (m ((c : Thread nD τ).loc main_arg5)) (m ((c : Thread nD τ).loc main_arg6)) (m ((c : Thread nD τ).loc main_arg7))

/-- The first result is the perceptron map of the first feature map. -/
theorem value_0 : Value.res_out0 m c
    = mapMlp (m ((c : Thread nD τ).loc main_arg0) : S4x256x64x64.Idx → EReal) (m ((c : Thread nD τ).loc main_arg4) : S256x1024.Idx → EReal)
        (m ((c : Thread nD τ).loc main_arg5) : S1024.Idx → EReal) (m ((c : Thread nD τ).loc main_arg6) : S1024x256.Idx → EReal)
        (m ((c : Thread nD τ).loc main_arg7) : S256.Idx → EReal) := by
  have e : Value.res_out0 m c = shapeCast S4x256x64x64 (transpose S4x256x4096 [0, 2, 1] (extractStridedSlice S4x4096x256 ![0, 0, 0] (finalTokens m c)
      slices_S4x5440x256_S4x4096x256_0_0_0) transposes_S4x4096x256_S4x256x4096_0_2_1) shapeCasts_S4x256x4096_S4x256x64x64 := rfl
  rw [e]
  funext i
  obtain ⟨b, k, y, z, rfl⟩ : ∃ (b : Fin 4) (k : Fin 256) (y : Fin 64) (z : Fin 64), i = ix4 b k y z := ⟨_, _, _, _, eq_ix4 i⟩
  refine (Cert.Spec.map_of_seq (H := 64) (W := 64) (L := 4096) _ _ _ b y z k ⟨y.val * 64 + z.val, by omega⟩ rfl rfl).trans ?_
  refine (cut_apply 0 (finalTokens m c) _ b _ k ⟨y.val * 64 + z.val, by omega⟩ (by show y.val * 64 + z.val = 0 + (y.val * 64 + z.val); omega)).trans ?_
  refine (updated_active _ _ _ _ _ b k _ (by show y.val * 64 + z.val < 5120; omega)).trans ?_
  exact congrArg (fun row => mlp row _ _ _ _ k) (funext fun k' => seqTokens_0 _ _ _ _ b y z k' _ rfl)

/-- The second, of the second. -/
theorem value_1 : Value.res_out1 m c
    = mapMlp (m ((c : Thread nD τ).loc main_arg1) : S4x256x32x32.Idx → EReal) (m ((c : Thread nD τ).loc main_arg4) : S256x1024.Idx → EReal)
        (m ((c : Thread nD τ).loc main_arg5) : S1024.Idx → EReal) (m ((c : Thread nD τ).loc main_arg6) : S1024x256.Idx → EReal)
        (m ((c : Thread nD τ).loc main_arg7) : S256.Idx → EReal) := by
  have e : Value.res_out1 m c = shapeCast S4x256x32x32 (transpose S4x256x1024 [0, 2, 1] (extractStridedSlice S4x1024x256 ![0, 4096, 0] (finalTokens m c)
      slices_S4x5440x256_S4x1024x256_0_4096_0) transposes_S4x1024x256_S4x256x1024_0_2_1) shapeCasts_S4x256x1024_S4x256x32x32 := rfl
  rw [e]
  funext i
  obtain ⟨b, k, y, z, rfl⟩ : ∃ (b : Fin 4) (k : Fin 256) (y : Fin 32) (z : Fin 32), i = ix4 b k y z := ⟨_, _, _, _, eq_ix4 i⟩
  refine (Cert.Spec.map_of_seq (H := 32) (W := 32) (L := 1024) _ _ _ b y z k ⟨y.val * 32 + z.val, by omega⟩ rfl rfl).trans ?_
  refine (cut_apply 4096 (finalTokens m c) _ b _ k ⟨4096 + (y.val * 32 + z.val), by omega⟩ rfl).trans ?_
  refine (updated_active _ _ _ _ _ b k _ (by show 4096 + (y.val * 32 + z.val) < 5120; omega)).trans ?_
  exact congrArg (fun row => mlp row _ _ _ _ k) (funext fun k' => seqTokens_1 _ _ _ _ b y z k' _ rfl)

/-- The third is the third feature map. -/
theorem value_2 : Value.res_out2 m c = (m ((c : Thread nD τ).loc main_arg2) : S4x256x16x16.Idx → EReal) := by
  have e : Value.res_out2 m c = shapeCast S4x256x16x16 (transpose S4x256x256 [0, 2, 1] (extractStridedSlice S4x256x256 ![0, 5120, 0] (finalTokens m c)
      slices_S4x5440x256_S4x256x256_0_5120_0) transposes_S4x256x256_S4x256x256_0_2_1) shapeCasts_S4x256x256_S4x256x16x16 := rfl
  rw [e]
  funext i
  obtain ⟨b, k, y, z, rfl⟩ : ∃ (b : Fin 4) (k : Fin 256) (y : Fin 16) (z : Fin 16), i = ix4 b k y z := ⟨_, _, _, _, eq_ix4 i⟩
  refine (Cert.Spec.map_of_seq (H := 16) (W := 16) (L := 256) _ _ _ b y z k ⟨y.val * 16 + z.val, by omega⟩ rfl rfl).trans ?_
  refine (cut_apply 5120 (finalTokens m c) _ b _ k ⟨5120 + (y.val * 16 + z.val), by omega⟩ rfl).trans ?_
  exact (updated_passive _ _ _ _ _ b k _ (Nat.le_add_right 5120 _)).trans (seqTokens_2 _ _ _ _ b y z k _ rfl)

/-- The fourth is the fourth. -/
theorem value_3 : Value.res_out3 m c = (m ((c : Thread nD τ).loc main_arg3) : S4x256x8x8.Idx → EReal) := by
  have e : Value.res_out3 m c = shapeCast S4x256x8x8 (transpose S4x256x64 [0, 2, 1] (extractStridedSlice S4x64x256 ![0, 5376, 0] (finalTokens m c)
      slices_S4x5440x256_S4x64x256_0_5376_0) transposes_S4x64x256_S4x256x64_0_2_1) shapeCasts_S4x256x64_S4x256x8x8 := rfl
  rw [e]
  funext i
  obtain ⟨b, k, y, z, rfl⟩ : ∃ (b : Fin 4) (k : Fin 256) (y : Fin 8) (z : Fin 8), i = ix4 b k y z := ⟨_, _, _, _, eq_ix4 i⟩
  refine (Cert.Spec.map_of_seq (H := 8) (W := 8) (L := 64) _ _ _ b y z k ⟨y.val * 8 + z.val, by omega⟩ rfl rfl).trans ?_
  refine (cut_apply 5376 (finalTokens m c) _ b _ k ⟨5376 + (y.val * 8 + z.val), by omega⟩ rfl).trans ?_
  exact (updated_passive _ _ _ _ _ b k _ (by show 5120 ≤ 5376 + (y.val * 8 + z.val); omega)).trans (seqTokens_3 _ _ _ _ b y z k _ rfl)

end Cert.ReferenceIdeal.Hand

end
-- ==== Proof.lean ====
/- The certificate's claims, put together: the three frames, the idealization, and the equality of the kernel's four results with the
   reference's over the extended reals. Both sides end with the same closed forms (`Cert.Spec.mapMlp`, and two maps left as they were). -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.KernelFrame
public import proofs.«01_k».proof.Proof.KernelValue
public import proofs.«01_k».proof.Proof.RefValue
public import Idealize.ShloMosaic.Lib.Quiescent
public import Idealize.ShloMosaic.Lib.Claim

@[expose] public section

noncomputable section

namespace Cert.Proof

open Idealize.ShloMosaic Idealize.SL.Sem
open Cert.Spec (mapMlp)

/-- The reference's program runs, leaves its arguments as they were, and has no semaphore that could end elsewhere than at zero. -/
theorem frame_reference : Cert.quiescent_ReferenceIdeal (hReferenceIdeal := Cert.ReferenceIdeal.Gen.facts) := fun m g _ =>
  (θ_run _ _ _).mono (fun r h => ⟨fun c => (h c).2.2.2.2, sem_eq_zero_of_no_sems (by decide) _⟩) (Cert.ReferenceIdeal.Value.run m g)

/-- From memories that agree on the arguments, the kernel and the reference end with the same four results, and their arguments unchanged. -/
theorem same_results : Cert.algebraic_KernelIdeal_ReferenceIdeal (hKernelIdeal := Cert.KernelIdeal.Gen.facts)
    (hReferenceIdeal := Cert.ReferenceIdeal.Gen.facts) := by
  intro m g m' g' _ hargs
  refine ⟨_, _, _, _,
    (θ_run _ _ _).mono (fun r h c => ⟨(h.1 c).1, (h.1 c).2.1, (h.1 c).2.2.1, (h.1 c).2.2.2, h.2 c⟩)
      (θ_run_and (Cert.KernelIdeal.Hand.run_values m g) (Cert.KernelIdeal.Hand.unchanged m g)),
    (θ_run _ _ _).mono (fun r h c => ?_) (Cert.ReferenceIdeal.Value.run m' g')⟩
  obtain ⟨a0, a1, a2, a3, a4, a5, a6, a7⟩ := hargs c
  obtain ⟨r0, r1, r2, r3, unchanged⟩ := h c
  refine ⟨(r0.trans (Cert.ReferenceIdeal.Hand.value_0 m' c)).trans ?_, (r1.trans (Cert.ReferenceIdeal.Hand.value_1 m' c)).trans ?_,
    (r2.trans (Cert.ReferenceIdeal.Hand.value_2 m' c)).trans a2, (r3.trans (Cert.ReferenceIdeal.Hand.value_3 m' c)).trans a3, unchanged⟩
  · rw [a0, a4, a5, a6, a7]
  · rw [a1, a4, a5, a6, a7]

/-- All the claims of the certificate. -/
theorem claim : Cert.Claim :=
  ⟨Cert.Kernel.Gen.facts, Cert.KernelIdeal.Gen.facts, Cert.ReferenceIdeal.Gen.facts,
    frame_kernel, fun m ρ _ => Cert.KernelIdeal.Hand.frame m ρ, frame_reference, trivial, same_results⟩

end Cert.Proof

end
